-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x192x48x48 : Shape := ⟨4, ![4, 192, 48, 48]⟩
abbrev S_ : Shape := ⟨0, ![]⟩

class Facts : Prop where
  bcast_S_S4x192x48x48 : S_.BroadcastsInDim S4x192x48x48 (![] : Fin 0 → Fin S4x192x48x48.rank)
  reducesTo_S4x192x48x48_S_d0_1_2_3 : S4x192x48x48.ReducesTo [0, 1, 2, 3] S_
  h_S_ : 0 < S_.numel

variable [Facts]

def fn {F : FTy → Type} [FloatOps F] (main_arg0 : FVec F S4x192x48x48 .f32) : IVec S_ 1 :=
  let main_v0 : FVec F S4x192x48x48 .f32 := Host.absf main_arg0
  let main_cst : FVec F S_ .f32 := constant S_ .f32 0x7F7FFFFF#32
  let main_v1 : FVec F S4x192x48x48 .f32 := broadcastInDim S4x192x48x48 ![] bcast_S_S4x192x48x48 main_cst
  let main_v2 : IVec S4x192x48x48 1 := cmpf .ole main_v0 main_v1
  let main_c : IVec S_ 1 := constantI S_ 1 1#1
  let main_v3 : IVec S_ 1 := (fun x v => Host.reduce IntOp.andi x v reducesTo_S4x192x48x48_S_d0_1_2_3 h_S_) main_v2 main_c
  main_v3
-- ==== Kernel.lean ====
abbrev S4x192x48x48 : Shape := ⟨4, ![4, 192, 48, 48]⟩
abbrev S4x192x2304 : Shape := ⟨3, ![4, 192, 2304]⟩
abbrev S4x1x2304 : Shape := ⟨3, ![4, 1, 2304]⟩
abbrev S4x8x192 : Shape := ⟨3, ![4, 8, 192]⟩
abbrev S1x192x2304 : Shape := ⟨3, ![1, 192, 2304]⟩
abbrev S192x2304 : Shape := ⟨2, ![192, 2304]⟩
abbrev S1152x2304 : Shape := ⟨2, ![1152, 2304]⟩
abbrev S8x2304 : Shape := ⟨2, ![8, 2304]⟩
abbrev S576x2304 : Shape := ⟨2, ![576, 2304]⟩
abbrev S8x576 : Shape := ⟨2, ![8, 576]⟩
abbrev S8x192 : Shape := ⟨2, ![8, 192]⟩
abbrev S8x1152 : Shape := ⟨2, ![8, 1152]⟩
abbrev S8 : Shape := ⟨1, ![8]⟩
abbrev S8x1 : Shape := ⟨2, ![8, 1]⟩
abbrev S2304 : Shape := ⟨1, ![2304]⟩
abbrev S1x2304 : Shape := ⟨2, ![1, 2304]⟩
abbrev S1x8x192 : Shape := ⟨3, ![1, 8, 192]⟩
abbrev S1x1x2304 : Shape := ⟨3, ![1, 1, 2304]⟩
abbrev S4x2304 : Shape := ⟨2, ![4, 2304]⟩

abbrev nBuf : Space → Nat
  | .hbm => 5
  | .vmem => 3
  | .smem => 0
  | _ => 0

abbrev bufTy : (tb : Table) → Fin (tcTables nBuf tb) → BufTy
  | .hbm, ⟨0, _⟩ => ⟨S4x192x48x48, .f32⟩
  | .hbm, ⟨1, _⟩ => ⟨S4x192x2304, .f32⟩
  | .hbm, ⟨2, _⟩ => ⟨S4x1x2304, .i32⟩
  | .hbm, ⟨3, _⟩ => ⟨S4x8x192, .f32⟩
  | .hbm, ⟨4, _⟩ => ⟨S4x2304, .i32⟩
  | .local _ .vmem, ⟨0, _⟩ => ⟨S4x192x2304, .f32⟩
  | .local _ .vmem, ⟨1, _⟩ => ⟨S4x1x2304, .i32⟩
  | .local _ .vmem, ⟨2, _⟩ => ⟨S4x8x192, .f32⟩
  | _, _ => ⟨S4x192x48x48, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x192x2304 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1x2304 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x192x48x48 : Shape := ⟨4, ![4, 192, 48, 48]⟩
abbrev S4x192x2304 : Shape := ⟨3, ![4, 192, 2304]⟩
abbrev S4x2304x192 : Shape := ⟨3, ![4, 2304, 192]⟩
abbrev S4x8x192 : Shape := ⟨3, ![4, 8, 192]⟩
abbrev S_ : Shape := ⟨0, ![]⟩
abbrev S4x2304x1x192 : Shape := ⟨4, ![4, 2304, 1, 192]⟩
abbrev S4x1x8x192 : Shape := ⟨4, ![4, 1, 8, 192]⟩
abbrev S4x2304x8x192 : Shape := ⟨4, ![4, 2304, 8, 192]⟩
abbrev S4x2304x8 : Shape := ⟨3, ![4, 2304, 8]⟩
abbrev S4x2304 : Shape := ⟨2, ![4, 2304]⟩
abbrev S4 : Shape := ⟨1, ![4]⟩
abbrev S4x1 : Shape := ⟨2, ![4, 1]⟩
abbrev S9216 : Shape := ⟨1, ![9216]⟩
abbrev S9216x192 : Shape := ⟨2, ![9216, 192]⟩
abbrev S32x192 : Shape := ⟨2, ![32, 192]⟩
abbrev S9216x1 : Shape := ⟨2, ![9216, 1]⟩
abbrev S32 : Shape := ⟨1, ![32]⟩
abbrev S4x8 : Shape := ⟨2, ![4, 8]⟩
abbrev S4x8x1 : Shape := ⟨3, ![4, 8, 1]⟩

abbrev nBuf : Space → Nat
  | .hbm => 107
  | .vmem => 0
  | .smem => 0
  | _ => 0

abbrev bufTy : (tb : Table) → Fin (tcTables nBuf tb) → BufTy
  | .hbm, ⟨0, _⟩ => ⟨S4x192x48x48, .f32⟩
  | .hbm, ⟨1, _⟩ => ⟨S4x192x2304, .f32⟩
  | .hbm, ⟨2, _⟩ => ⟨S4x2304x192, .f32⟩
  | .hbm, ⟨3, _⟩ => ⟨S4x8x192, .f32⟩
  | .hbm, ⟨4, _⟩ => ⟨S_, .i32⟩
  | .hbm, ⟨5, _⟩ => ⟨S4x2304x192, .f32⟩
  | .hbm, ⟨6, _⟩ => ⟨S_, .i32⟩
  | .hbm, ⟨7, _⟩ => ⟨S4x8x192, .f32⟩
  | .hbm, ⟨8, _⟩ => ⟨S_, .i32⟩
  | .hbm, ⟨9, _⟩ => ⟨S_, .i1⟩
  | .hbm, ⟨10, _⟩ => ⟨S4x2304x1x192, .f32⟩
  | .hbm, ⟨11, _⟩ => ⟨S4x1x8x192, .f32⟩
  | .hbm, ⟨12, _⟩ => ⟨S4x2304x8x192, .f32⟩
  | .hbm, ⟨13, _⟩ => ⟨S4x2304x8x192, .f32⟩
  | .hbm, ⟨14, _⟩ => ⟨S4x2304x8x192, .f32⟩
  | .hbm, ⟨15, _⟩ => ⟨S4x2304x8x192, .f32⟩
  | .hbm, ⟨16, _⟩ => ⟨S_, .f32⟩
  | .hbm, ⟨17, _⟩ => ⟨S4x2304x8, .f32⟩
  | .hbm, ⟨18, _⟩ => ⟨S4x2304x8, .i32⟩
  | .hbm, ⟨19, _⟩ => ⟨S_, .f32⟩
  | .hbm, ⟨20, _⟩ => ⟨S_, .i32⟩
  | .hbm, ⟨21, _⟩ => ⟨S4x2304, .f32⟩
  | .hbm, ⟨22, _⟩ => ⟨S4x2304, .i32⟩
  | .hbm, ⟨23, _⟩ => ⟨S4, .i32⟩
  | .hbm, ⟨24, _⟩ => ⟨S4x1, .i32⟩
  | .hbm, ⟨25, _⟩ => ⟨S_, .i32⟩
  | .hbm, ⟨26, _⟩ => ⟨S4x1, .i32⟩
  | .hbm, ⟨27, _⟩ => ⟨S4x1, .i32⟩
  | .hbm, ⟨28, _⟩ => ⟨S4x2304, .i32⟩
  | .hbm, ⟨29, _⟩ => ⟨S4x2304, .i32⟩
  | .hbm, ⟨30, _⟩ => ⟨S9216, .i32⟩
  | .hbm, ⟨31, _⟩ => ⟨S9216x192, .f32⟩
  | .hbm, ⟨32, _⟩ => ⟨S_, .f32⟩
  | .hbm, ⟨33, _⟩ => ⟨S32x192, .f32⟩
  | .hbm, ⟨34, _⟩ => ⟨S9216x1, .i32⟩
  | .hbm, ⟨35, _⟩ => ⟨S32x192, .f32⟩
  | .hbm, ⟨36, _⟩ => ⟨S_, .f32⟩
  | .hbm, ⟨37, _⟩ => ⟨S9216, .f32⟩
  | .hbm, ⟨38, _⟩ => ⟨S_, .f32⟩
  | .hbm, ⟨39, _⟩ => ⟨S32, .f32⟩
  | .hbm, ⟨40, _⟩ => ⟨S9216x1, .i32⟩
  | .hbm, ⟨41, _⟩ => ⟨S32, .f32⟩
  | .hbm, ⟨42, _⟩ => ⟨S4x8x192, .f32⟩
  | .hbm, ⟨43, _⟩ => ⟨S4x8, .f32⟩
  | .hbm, ⟨44, _⟩ => ⟨S4x8x1, .f32⟩
  | .hbm, ⟨45, _⟩ => ⟨S_, .f32⟩
  | .hbm, ⟨46, _⟩ => ⟨S4x8x1, .f32⟩
  | .hbm, ⟨47, _⟩ => ⟨S4x8x1, .i1⟩
  | .hbm, ⟨48, _⟩ => ⟨S_, .f32⟩
  | .hbm, ⟨49, _⟩ => ⟨S4x8, .f32⟩
  | .hbm, ⟨50, _⟩ => ⟨S4x8, .f32⟩
  | .hbm, ⟨51, _⟩ => ⟨S4x8x1, .f32⟩
  | .hbm, ⟨52, _⟩ => ⟨S4x8x192, .f32⟩
  | .hbm, ⟨53, _⟩ => ⟨S4x8x192, .f32⟩
  | .hbm, ⟨54, _⟩ => ⟨S4x8x192, .i1⟩
  | .hbm, ⟨55, _⟩ => ⟨S4x8x192, .f32⟩
  | .hbm, ⟨56, _⟩ => ⟨S_, .i32⟩
  | .hbm, ⟨57, _⟩ => ⟨S_, .i32⟩
  | .hbm, ⟨58, _⟩ => ⟨S4x2304x1x192, .f32⟩
  | .hbm, ⟨59, _⟩ => ⟨S4x1x8x192, .f32⟩
  | .hbm, ⟨60, _⟩ => ⟨S4x2304x8x192, .f32⟩
  | .hbm, ⟨61, _⟩ => ⟨S4x2304x8x192, .f32⟩
  | .hbm, ⟨62, _⟩ => ⟨S4x2304x8x192, .f32⟩
  | .hbm, ⟨63, _⟩ => ⟨S4x2304x8x192, .f32⟩
  | .hbm, ⟨64, _⟩ => ⟨S_, .f32⟩
  | .hbm, ⟨65, _⟩ => ⟨S4x2304x8, .f32⟩
  | .hbm, ⟨66, _⟩ => ⟨S4x2304x8, .i32⟩
  | .hbm, ⟨67, _⟩ => ⟨S_, .f32⟩
  | .hbm, ⟨68, _⟩ => ⟨S_, .i32⟩
  | .hbm, ⟨69, _⟩ => ⟨S4x2304, .f32⟩
  | .hbm, ⟨70, _⟩ => ⟨S4x2304, .i32⟩
  | .hbm, ⟨71, _⟩ => ⟨S4, .i32⟩
  | .hbm, ⟨72, _⟩ => ⟨S4x1, .i32⟩
  | .hbm, ⟨73, _⟩ => ⟨S_, .i32⟩
  | .hbm, ⟨74, _⟩ => ⟨S4x1, .i32⟩
  | .hbm, ⟨75, _⟩ => ⟨S4x1, .i32⟩
  | .hbm, ⟨76, _⟩ => ⟨S4x2304, .i32⟩
  | .hbm, ⟨77, _⟩ => ⟨S4x2304, .i32⟩
  | .hbm, ⟨78, _⟩ => ⟨S9216, .i32⟩
  | .hbm, ⟨79, _⟩ => ⟨S9216x192, .f32⟩
  | .hbm, ⟨80, _⟩ => ⟨S_, .f32⟩
  | .hbm, ⟨81, _⟩ => ⟨S32x192, .f32⟩
  | .hbm, ⟨82, _⟩ => ⟨S9216x1, .i32⟩
  | .hbm, ⟨83, _⟩ => ⟨S32x192, .f32⟩
  | .hbm, ⟨84, _⟩ => ⟨S_, .f32⟩
  | .hbm, ⟨85, _⟩ => ⟨S9216, .f32⟩
  | .hbm, ⟨86, _⟩ => ⟨S_, .f32⟩
  | .hbm, ⟨87, _⟩ => ⟨S32, .f32⟩
  | .hbm, ⟨88, _⟩ => ⟨S9216x1, .i32⟩
  | .hbm, ⟨89, _⟩ => ⟨S32, .f32⟩
  | .hbm, ⟨90, _⟩ => ⟨S4x8x192, .f32⟩
  | .hbm, ⟨91, _⟩ => ⟨S4x8, .f32⟩
  | .hbm, ⟨92, _⟩ => ⟨S4x8x1, .f32⟩
  | .hbm, ⟨93, _⟩ => ⟨S_, .f32⟩
  | .hbm, ⟨94, _⟩ => ⟨S4x8x1, .f32⟩
  | .hbm, ⟨95, _⟩ => ⟨S4x8x1, .i1⟩
  | .hbm, ⟨96, _⟩ => ⟨S_, .f32⟩
  | .hbm, ⟨97, _⟩ => ⟨S4x8, .f32⟩
  | .hbm, ⟨98, _⟩ => ⟨S4x8, .f32⟩
  | .hbm, ⟨99, _⟩ => ⟨S4x8x1, .f32⟩
  | .hbm, ⟨100, _⟩ => ⟨S4x8x192, .f32⟩
  | .hbm, ⟨101, _⟩ => ⟨S4x8x192, .f32⟩
  | .hbm, ⟨102, _⟩ => ⟨S_, .f32⟩
  | .hbm, ⟨103, _⟩ => ⟨S_, .f32⟩
  | .hbm, ⟨104, _⟩ => ⟨S4x8x192, .i1⟩
  | .hbm, ⟨105, _⟩ => ⟨S4x8x192, .f32⟩
  | .hbm, ⟨106, _⟩ => ⟨S4x8x192, .f32⟩
  | _, _ => ⟨S4x192x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_while0c_c_9 : Ref sig .tc := ⟨.hbm, 8, rfl⟩
abbrev main_while0c_v38 : Ref sig .tc := ⟨.hbm, 9, rfl⟩
abbrev main_while0b_v38 : Ref sig .tc := ⟨.hbm, 10, rfl⟩
abbrev main_while0b_v39 : Ref sig .tc := ⟨.hbm, 11, rfl⟩
abbrev main_while0b_v40 : Ref sig .tc := ⟨.hbm, 12, rfl⟩
abbrev main_while0b_v41 : Ref sig .tc := ⟨.hbm, 13, rfl⟩
abbrev main_while0b_v42 : Ref sig .tc := ⟨.hbm, 14, rfl⟩
abbrev main_while0b_v43 : Ref sig .tc := ⟨.hbm, 15, rfl⟩
abbrev main_while0b_cst_9 : Ref sig .tc := ⟨.hbm, 16, rfl⟩
abbrev main_while0b_v44 : Ref sig .tc := ⟨.hbm, 17, rfl⟩
abbrev main_while0b_call0_v0 : Ref sig .tc := ⟨.hbm, 18, rfl⟩
abbrev main_while0b_call0_cst : Ref sig .tc := ⟨.hbm, 19, rfl⟩
abbrev main_while0b_call0_c : Ref sig .tc := ⟨.hbm, 20, rfl⟩
abbrev main_while0b_call0_v1_0 : Ref sig .tc := ⟨.hbm, 21, rfl⟩
abbrev main_while0b_v45 : Ref sig .tc := ⟨.hbm, 22, rfl⟩
abbrev main_while0b_v46 : Ref sig .tc := ⟨.hbm, 23, rfl⟩
abbrev main_while0b_v47 : Ref sig .tc := ⟨.hbm, 24, rfl⟩
abbrev main_while0b_c_10 : Ref sig .tc := ⟨.hbm, 25, rfl⟩
abbrev main_while0b_v48 : Ref sig .tc := ⟨.hbm, 26, rfl⟩
abbrev main_while0b_v49 : Ref sig .tc := ⟨.hbm, 27, rfl⟩
abbrev main_while0b_v50 : Ref sig .tc := ⟨.hbm, 28, rfl⟩
abbrev main_while0b_v51 : Ref sig .tc := ⟨.hbm, 29, rfl⟩
abbrev main_while0b_v52 : Ref sig .tc := ⟨.hbm, 30, rfl⟩
abbrev main_while0b_v53 : Ref sig .tc := ⟨.hbm, 31, rfl⟩
abbrev main_while0b_cst_11 : Ref sig .tc := ⟨.hbm, 32, rfl⟩
abbrev main_while0b_v54 : Ref sig .tc := ⟨.hbm, 33, rfl⟩
abbrev main_while0b_v55 : Ref sig .tc := ⟨.hbm, 34, rfl⟩
abbrev main_while0b_v56 : Ref sig .tc := ⟨.hbm, 35, rfl⟩
abbrev main_while0b_cst_12 : Ref sig .tc := ⟨.hbm, 36, rfl⟩
abbrev main_while0b_v57 : Ref sig .tc := ⟨.hbm, 37, rfl⟩
abbrev main_while0b_cst_13 : Ref sig .tc := ⟨.hbm, 38, rfl⟩
abbrev main_while0b_v58 : Ref sig .tc := ⟨.hbm, 39, rfl⟩
abbrev main_while0b_v59 : Ref sig .tc := ⟨.hbm, 40, rfl⟩
abbrev main_while0b_v60 : Ref sig .tc := ⟨.hbm, 41, rfl⟩
abbrev main_while0b_v61 : Ref sig .tc := ⟨.hbm, 42, rfl⟩
abbrev main_while0b_v62 : Ref sig .tc := ⟨.hbm, 43, rfl⟩
abbrev main_while0b_v63 : Ref sig .tc := ⟨.hbm, 44, rfl⟩
abbrev main_while0b_cst_14 : Ref sig .tc := ⟨.hbm, 45, rfl⟩
abbrev main_while0b_v64 : Ref sig .tc := ⟨.hbm, 46, rfl⟩
abbrev main_while0b_v65 : Ref sig .tc := ⟨.hbm, 47, rfl⟩
abbrev main_while0b_cst_15 : Ref sig .tc := ⟨.hbm, 48, rfl⟩
abbrev main_while0b_v66 : Ref sig .tc := ⟨.hbm, 49, rfl⟩
abbrev main_while0b_v67 : Ref sig .tc := ⟨.hbm, 50, rfl⟩
abbrev main_while0b_v68 : Ref sig .tc := ⟨.hbm, 51, rfl⟩
abbrev main_while0b_v69 : Ref sig .tc := ⟨.hbm, 52, rfl⟩
abbrev main_while0b_v70 : Ref sig .tc := ⟨.hbm, 53, rfl⟩
abbrev main_while0b_call1_v0 : Ref sig .tc := ⟨.hbm, 54, rfl⟩
abbrev main_while0b_v71 : Ref sig .tc := ⟨.hbm, 55, rfl⟩
abbrev main_while0b_c_16 : Ref sig .tc := ⟨.hbm, 56, rfl⟩
abbrev main_while0b_v72 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_cst : Ref sig .tc := ⟨.hbm, 64, rfl⟩
abbrev main_v10 : Ref sig .tc := ⟨.hbm, 65, rfl⟩
abbrev main_call2_v0 : Ref sig .tc := ⟨.hbm, 66, rfl⟩
abbrev main_call2_cst : Ref sig .tc := ⟨.hbm, 67, rfl⟩
abbrev main_call2_c : Ref sig .tc := ⟨.hbm, 68, rfl⟩
abbrev main_call2_v1_0 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_c_0 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_cst_1 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_cst_2 : Ref sig .tc := ⟨.hbm, 84, rfl⟩
abbrev main_v23 : Ref sig .tc := ⟨.hbm, 85, rfl⟩
abbrev main_cst_3 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_cst_4 : Ref sig .tc := ⟨.hbm, 93, rfl⟩
abbrev main_v30 : Ref sig .tc := ⟨.hbm, 94, rfl⟩
abbrev main_v31 : Ref sig .tc := ⟨.hbm, 95, rfl⟩
abbrev main_cst_5 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_cst_6 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v37 : Ref sig .tc := ⟨.hbm, 106, rfl⟩

abbrev nD : Nat := 1
abbrev τ : Topo := Topo.v7x

variable {F : FTy → Type} [FloatOps F]

abbrev main_while0_count : Scf.Loop 32 := ⟨0#32, 10#32, 1#32⟩
-- ==== Proof.KValue.lean ====
/-
  THE KERNEL'S RUN: what its two result arrays hold at the end, as the output blocks over the reshaped argument.
-/
module

public import proofs.«01_k».proof.Proof.Gen.KernelIdeal.Frame
public import Idealize.ShloMosaic.Lib.Pipeline.ValueKit

@[expose] public section

set_option maxRecDepth 16384

noncomputable section

namespace Cert.KMeans.Kernel

open Idealize.ShloMosaic Idealize.ShloMosaic.TcCoe Idealize.SL.Sem Cert.KernelIdeal Cert.KernelIdeal.Gen

/-- The kernel's operand: the argument with its two pixel axes as one. -/
def operand (a : Vec Ideal S4x192x48x48 .f32) : Vec Ideal S4x192x2304 .f32 :=
  shapeCast S4x192x2304 a Facts₀.shapeCasts_S4x192x48x48_S4x192x2304

variable (m : (ℓ : Loc nD τ sig) → Buf (Elt Ideal) ℓ)

theorem V_operand (c : Dev nD) : V m c main_v0 = operand (m ((c.tc : Thread nD τ).loc main_arg0)) := by
  show StableHlo.after hostOps0 _ _ = _
  unfold hostOps0
  rw [StableHlo.after_cons, StableHlo.after_nil, StableHlo.reshape_result]
  rfl

theorem index_zero : ∀ (t : Fin cfg0.N) a, (cfg0.win 0).index t a = 0 := by decide +kernel

theorem iblk_operand (c : Dev nD) (t : Fin cfg0.N) :
    iblk m c 0 t = operand (m ((c.tc : Thread nD τ).loc main_arg0)) := by
  rw [← V_operand m c]
  generalize hV : V m c main_v0 = v
  funext y
  unfold iblk
  rw [View.read_apply]
  subst hV
  refine congrArg (V m c main_v0) (funext fun a => Fin.ext ?_)
  exact Pipeline.Window.rect_emb_val_of_index_zero (cfg0.win 0) t a (index_zero t a) y

theorem arr_labels (c : Dev nD) :
    (dats m 0 c).arrAt 1 cfg0.N = out0_1 (operand (m ((c.tc : Thread nD τ).loc main_arg0))) := by
  have h := after0_1 m c ⟨0, by decide⟩
  rw [iblk_operand] at h
  generalize out0_1 (operand (m ((c.tc : Thread nD τ).loc main_arg0))) = G at h ⊢
  refine (dats m 0 c).arrAt_eq_of_after_last 1 ⟨0, by decide⟩ (by decide +kernel) _ fun j => ?_
  rw [h]
  rfl

theorem arr_means (c : Dev nD) :
    (dats m 0 c).arrAt 2 cfg0.N = out0_2 (operand (m ((c.tc : Thread nD τ).loc main_arg0))) := by
  have h := after0_2 m c ⟨0, by decide⟩
  rw [iblk_operand] at h
  generalize out0_2 (operand (m ((c.tc : Thread nD τ).loc main_arg0))) = G at h ⊢
  refine (dats m 0 c).arrAt_eq_of_after_last 2 ⟨0, by decide⟩ (by decide +kernel) _ fun j => ?_
  rw [h]
  rfl

/-- The labels as the program returns them: the labels' block without its middle axis. -/
def labelResult (a : Vec Ideal S4x192x48x48 .f32) : Vec Ideal S4x2304 .i32 :=
  shapeCast S4x2304 (out0_1 (operand a)) Facts₀.shapeCasts_S4x1x2304_S4x2304

theorem tail_labels (c : Dev nD) :
    Pipeline.afterTail₀ cfgs (dats m) 0 (V0 m) [hostOps1] c main_v2
      = labelResult (m ((c.tc : Thread nD τ).loc main_arg0)) := by
  unfold Pipeline.afterTail₀
  show StableHlo.after hostOps1 _ _ = _
  unfold hostOps1
  rw [StableHlo.after_cons, StableHlo.after_nil, StableHlo.reshape_result]
  have h := Pipeline.withArrays_arr spec0 launch0.win.arr_inj c (V0 m c) (fun w => (dats m 0 c).arrAt w cfg0.N) 1
  rw [arr_labels] at h
  unfold labelResult
  rw [← h]
  rfl

/-- THE RUN: the means, the labels and the argument at the end. -/
theorem run (ρ : Dev nD → PrngReg) :
    θ_run defs (onTc (τ := τ) (main (F := Ideal))) ⟨m, fun _ => 0, ρ⟩ (fun r => ∀ c : Dev nD,
      r.2.mem ((c.tc : Thread nD τ).loc main_v1_1) = out0_2 (operand (m ((c.tc : Thread nD τ).loc main_arg0)))
      ∧ r.2.mem ((c.tc : Thread nD τ).loc main_v2) = labelResult (m ((c.tc : Thread nD τ).loc main_arg0))
      ∧ r.2.mem ((c.tc : Thread nD τ).loc main_arg0) = m ((c.tc : Thread nD τ).loc main_arg0)) :=
  (θ_run defs _ _).mono (fun _ h c =>
    ⟨((h c).1 2).trans (arr_means m c),
      ((h c).2 main_v2 (Pipeline.mem_restRefs_of main_v2 (by decide) (by decide))).trans (tail_labels m c),
      ((h c).2 main_arg0 (Pipeline.mem_restRefs_of main_arg0 (by decide) (by decide))).trans (W_main_arg0 m (dats m) c)⟩) (run_main m ρ)

end Cert.KMeans.Kernel

end
-- ==== Proof.RefLists.lean ====
/-
  THE REFERENCE'S OPERATIONS as they are printed, in stretches: what precedes the loop (`onset`), one iteration of the loop
  (`trip…`) and what follows the loop (`last…`). Of every stretch: it touches the device's own buffers only, allocates none, and
  leaves alone every buffer it doesn't write.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

noncomputable section

namespace Cert.KMeans.Reference

open Idealize.ShloMosaic Idealize.ShloMosaic.TcCoe Idealize.ShloMosaic.StableHlo
open Cert.ReferenceIdeal Cert.ReferenceIdeal.Gen

variable {F : FTy → Type} [FloatOps F]

/-- What precedes the loop: the points, the first centres and the loop's first carried values. -/
abbrev onset : List (HloOp τ sig (Elt F)) :=
  [ StableHlo.reshape main_arg0 main_v0 (rfl : (.f32 : EltTy) = .f32) shapeCasts_S4x192x48x48_S4x192x2304,
    StableHlo.unary main_v0 main_v1 ((transpose S4x2304x192 [0, 2, 1] · transposes_S4x192x2304_S4x2304x192_0_2_1) : (⟨S4x192x2304, .f32⟩ : BufTy).Contents (Elt F) → (⟨S4x2304x192, .f32⟩ : BufTy).Contents (Elt F)),
    StableHlo.unary main_v1 main_v2 ((extractStridedSlice S4x8x192 ![0, 0, 0] · slices_S4x2304x192_S4x8x192_0_0_0) : (⟨S4x2304x192, .f32⟩ : BufTy).Contents (Elt F) → (⟨S4x8x192, .f32⟩ : BufTy).Contents (Elt F)),
    StableHlo.nullary main_c (constantI S_ 32 0#32),
    StableHlo.unary main_v1 main_v3_0 id,
    StableHlo.unary main_c main_v3_1 id,
    StableHlo.unary main_v2 main_v3_2 id ]

theorem onset_sub : (onset : List (HloOp τ sig (Elt F))).Forall fun op => op.bufs ⊆ StableHlo.tcRefs τ sig :=
  ⟨StableHlo.reshape_bufs_sub .., StableHlo.unary_bufs_sub .., StableHlo.unary_bufs_sub .., StableHlo.nullary_bufs_sub .., StableHlo.unary_bufs_sub .., StableHlo.unary_bufs_sub .., StableHlo.unary_bufs_sub ..⟩

theorem onset_fresh : (onset : List (HloOp τ sig (Elt F))).Forall fun op => op.fresh = ∅ := StableHlo.forall_fresh_of_map rfl

/-- What `onset` writes, in order. -/
abbrev onset_W : List (Ref sig .tc) := [main_v0, main_v1, main_v2, main_c, main_v3_0, main_v3_1, main_v3_2]

theorem onset_off (V : Valuation τ sig (Elt F)) {r : Ref sig .tc} (h : r ∉ onset_W) : after onset V (Proc.devRef .tc r) = V (Proc.devRef .tc r) :=
  after_unwritten onset_W rfl h V

/-- The loop's squared distances. -/
abbrev tripDist : List (HloOp τ sig (Elt F)) :=
  [ StableHlo.unary main_v3_0 main_while0b_v38 (broadcastInDim S4x2304x1x192 ![0, 1, 3] bcast_S4x2304x192_S4x2304x1x192_0_1_3 : (⟨S4x2304x192, .f32⟩ : BufTy).Contents (Elt F) → (⟨S4x2304x1x192, .f32⟩ : BufTy).Contents (Elt F)),
    StableHlo.unary main_v3_2 main_while0b_v39 (broadcastInDim S4x1x8x192 ![0, 2, 3] bcast_S4x8x192_S4x1x8x192_0_2_3 : (⟨S4x8x192, .f32⟩ : BufTy).Contents (Elt F) → (⟨S4x1x8x192, .f32⟩ : BufTy).Contents (Elt F)),
    StableHlo.unary main_while0b_v38 main_while0b_v40 (broadcastInDim S4x2304x8x192 ![0, 1, 2, 3] bcast_S4x2304x1x192_S4x2304x8x192_0_1_2_3 : (⟨S4x2304x1x192, .f32⟩ : BufTy).Contents (Elt F) → (⟨S4x2304x8x192, .f32⟩ : BufTy).Contents (Elt F)),
    StableHlo.unary main_while0b_v39 main_while0b_v41 (broadcastInDim S4x2304x8x192 ![0, 1, 2, 3] bcast_S4x1x8x192_S4x2304x8x192_0_1_2_3 : (⟨S4x1x8x192, .f32⟩ : BufTy).Contents (Elt F) → (⟨S4x2304x8x192, .f32⟩ : BufTy).Contents (Elt F)),
    StableHlo.binary main_while0b_v40 main_while0b_v41 main_while0b_v42 (subf : (⟨S4x2304x8x192, .f32⟩ : BufTy).Contents (Elt F) → (⟨S4x2304x8x192, .f32⟩ : BufTy).Contents (Elt F) → (⟨S4x2304x8x192, .f32⟩ : BufTy).Contents (Elt F)),
    StableHlo.binary main_while0b_v42 main_while0b_v42 main_while0b_v43 (mulf : (⟨S4x2304x8x192, .f32⟩ : BufTy).Contents (Elt F) → (⟨S4x2304x8x192, .f32⟩ : BufTy).Contents (Elt F) → (⟨S4x2304x8x192, .f32⟩ : BufTy).Contents (Elt F)),
    StableHlo.nullary main_while0b_cst_9 (constant S_ .f32 0x00000000#32),
    StableHlo.binary main_while0b_v43 main_while0b_cst_9 main_while0b_v44 ((fun x v => Host.reduceAdd x v reducesTo_S4x2304x8x192_S4x2304x8_d3 h_S_) : (⟨S4x2304x8x192, .f32⟩ : BufTy).Contents (Elt F) → (⟨S_, .f32⟩ : BufTy).Contents (Elt F) → (⟨S4x2304x8, .f32⟩ : BufTy).Contents (Elt F)) ]

theorem tripDist_sub : (tripDist : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub ..⟩

theorem tripDist_fresh : (tripDist : List (HloOp τ sig (Elt F))).Forall fun op => op.fresh = ∅ := StableHlo.forall_fresh_of_map rfl

/-- What `tripDist` writes, in order. -/
abbrev tripDist_W : List (Ref sig .tc) := [main_while0b_v38, main_while0b_v39, main_while0b_v40, main_while0b_v41, main_while0b_v42, main_while0b_v43, main_while0b_cst_9, main_while0b_v44]

theorem tripDist_off (V : Valuation τ sig (Elt F)) {r : Ref sig .tc} (h : r ∉ tripDist_W) : after tripDist V (Proc.devRef .tc r) = V (Proc.devRef .tc r) :=
  after_unwritten tripDist_W rfl h V

/-- The loop's labels. -/
abbrev tripLabel : List (HloOp τ sig (Elt F)) :=
  [ StableHlo.TRef.nullary (.of main_while0b_call0_v0 : StableHlo.TRef sig ⟨S4x2304x8, .i32⟩) (iotaInDim S4x2304x8 32 2),
    StableHlo.TRef.nullary (.of main_while0b_call0_cst : StableHlo.TRef sig ⟨S_, .f32⟩) (constant S_ .f32 0x7F800000#32),
    StableHlo.TRef.nullary (.of main_while0b_call0_c : StableHlo.TRef sig ⟨S_, .i32⟩) (constantI S_ 32 0#32),
    StableHlo.TRef.quaternary (.of main_while0b_v44 : StableHlo.TRef sig ⟨S4x2304x8, .f32⟩) (.of main_while0b_call0_v0 : StableHlo.TRef sig ⟨S4x2304x8, .i32⟩) (.of main_while0b_call0_cst : StableHlo.TRef sig ⟨S_, .f32⟩) (.of main_while0b_call0_c : StableHlo.TRef sig ⟨S_, .i32⟩) (.of main_while0b_call0_v1_0 : StableHlo.TRef sig ⟨S4x2304, .f32⟩) (fun x y u v j => (Host.argReduce reducer_argmin_f32_i32 x y u v reducesTo_S4x2304x8_S4x2304_d2 h_S_ j).1),
    StableHlo.TRef.quaternary (.of main_while0b_v44 : StableHlo.TRef sig ⟨S4x2304x8, .f32⟩) (.of main_while0b_call0_v0 : StableHlo.TRef sig ⟨S4x2304x8, .i32⟩) (.of main_while0b_call0_cst : StableHlo.TRef sig ⟨S_, .f32⟩) (.of main_while0b_call0_c : StableHlo.TRef sig ⟨S_, .i32⟩) (.of main_while0b_v45 : StableHlo.TRef sig ⟨S4x2304, .i32⟩) (fun x y u v j => (Host.argReduce reducer_argmin_f32_i32 x y u v reducesTo_S4x2304x8_S4x2304_d2 h_S_ j).2) ]

theorem tripLabel_sub : (tripLabel : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

theorem tripLabel_fresh : (tripLabel : List (HloOp τ sig (Elt F))).Forall fun op => op.fresh = ∅ := StableHlo.forall_fresh_of_map rfl

/-- What `tripLabel` writes, in order. -/
abbrev tripLabel_W : List (Ref sig .tc) := [main_while0b_call0_v0, main_while0b_call0_cst, main_while0b_call0_c, main_while0b_call0_v1_0, main_while0b_v45]

theorem tripLabel_off (V : Valuation τ sig (Elt F)) {r : Ref sig .tc} (h : r ∉ tripLabel_W) : after tripLabel V (Proc.devRef .tc r) = V (Proc.devRef .tc r) :=
  after_unwritten tripLabel_W rfl h V

/-- The loop's sums and numbers of the points of every label. -/
abbrev tripTotal : List (HloOp τ sig (Elt F)) :=
  [ StableHlo.nullary main_while0b_v46 (iotaInDim S4 32 0),
    StableHlo.unary main_while0b_v46 main_while0b_v47 (broadcastInDim S4x1 ![0] bcast_S4_S4x1_0 : (⟨S4, .i32⟩ : BufTy).Contents (Elt F) → (⟨S4x1, .i32⟩ : BufTy).Contents (Elt F)),
    StableHlo.nullary main_while0b_c_10 (constantI S_ 32 8#32),
    StableHlo.unary main_while0b_c_10 main_while0b_v48 (broadcastInDim S4x1 ![] bcast_S_S4x1 : (⟨S_, .i32⟩ : BufTy).Contents (Elt F) → (⟨S4x1, .i32⟩ : BufTy).Contents (Elt F)),
    StableHlo.binary main_while0b_v47 main_while0b_v48 main_while0b_v49 (muli : (⟨S4x1, .i32⟩ : BufTy).Contents (Elt F) → (⟨S4x1, .i32⟩ : BufTy).Contents (Elt F) → (⟨S4x1, .i32⟩ : BufTy).Contents (Elt F)),
    StableHlo.unary main_while0b_v49 main_while0b_v50 (broadcastInDim S4x2304 ![0, 1] bcast_S4x1_S4x2304_0_1 : (⟨S4x1, .i32⟩ : BufTy).Contents (Elt F) → (⟨S4x2304, .i32⟩ : BufTy).Contents (Elt F)),
    StableHlo.binary main_while0b_v50 main_while0b_v45 main_while0b_v51 (addi : (⟨S4x2304, .i32⟩ : BufTy).Contents (Elt F) → (⟨S4x2304, .i32⟩ : BufTy).Contents (Elt F) → (⟨S4x2304, .i32⟩ : BufTy).Contents (Elt F)),
    StableHlo.reshape main_while0b_v51 main_while0b_v52 (rfl : (.i32 : EltTy) = .i32) shapeCasts_S4x2304_S9216,
    StableHlo.reshape main_v3_0 main_while0b_v53 (rfl : (.f32 : EltTy) = .f32) shapeCasts_S4x2304x192_S9216x192,
    StableHlo.nullary main_while0b_cst_11 (constant S_ .f32 0x00000000#32),
    StableHlo.unary main_while0b_cst_11 main_while0b_v54 (broadcastInDim S32x192 ![] bcast_S_S32x192 : (⟨S_, .f32⟩ : BufTy).Contents (Elt F) → (⟨S32x192, .f32⟩ : BufTy).Contents (Elt F)),
    StableHlo.unary main_while0b_v52 main_while0b_v55 (broadcastInDim S9216x1 ![0] bcast_S9216_S9216x1_0 : (⟨S9216, .i32⟩ : BufTy).Contents (Elt F) → (⟨S9216x1, .i32⟩ : BufTy).Contents (Elt F)),
    StableHlo.ternary main_while0b_v54 main_while0b_v55 main_while0b_v53 main_while0b_v56 ((fun x i u => Host.scatterAdd scatter_S32x192_S9216x1_S9216x192_1_0_0_1 x i u) : (⟨S32x192, .f32⟩ : BufTy).Contents (Elt F) → (⟨S9216x1, .i32⟩ : BufTy).Contents (Elt F) → (⟨S9216x192, .f32⟩ : BufTy).Contents (Elt F) → (⟨S32x192, .f32⟩ : BufTy).Contents (Elt F)),
    StableHlo.nullary main_while0b_cst_12 (constant S_ .f32 0x3F800000#32),
    StableHlo.unary main_while0b_cst_12 main_while0b_v57 (broadcastInDim S9216 ![] bcast_S_S9216 : (⟨S_, .f32⟩ : BufTy).Contents (Elt F) → (⟨S9216, .f32⟩ : BufTy).Contents (Elt F)),
    StableHlo.nullary main_while0b_cst_13 (constant S_ .f32 0x00000000#32),
    StableHlo.unary main_while0b_cst_13 main_while0b_v58 (broadcastInDim S32 ![] bcast_S_S32 : (⟨S_, .f32⟩ : BufTy).Contents (Elt F) → (⟨S32, .f32⟩ : BufTy).Contents (Elt F)),
    StableHlo.unary main_while0b_v52 main_while0b_v59 (broadcastInDim S9216x1 ![0] bcast_S9216_S9216x1_0 : (⟨S9216, .i32⟩ : BufTy).Contents (Elt F) → (⟨S9216x1, .i32⟩ : BufTy).Contents (Elt F)),
    StableHlo.ternary main_while0b_v58 main_while0b_v59 main_while0b_v57 main_while0b_v60 ((fun x i u => Host.scatterAdd scatter_S32_S9216x1_S9216_n_0_0_1 x i u) : (⟨S32, .f32⟩ : BufTy).Contents (Elt F) → (⟨S9216x1, .i32⟩ : BufTy).Contents (Elt F) → (⟨S9216, .f32⟩ : BufTy).Contents (Elt F) → (⟨S32, .f32⟩ : BufTy).Contents (Elt F)),
    StableHlo.reshape main_while0b_v56 main_while0b_v61 (rfl : (.f32 : EltTy) = .f32) shapeCasts_S32x192_S4x8x192,
    StableHlo.reshape main_while0b_v60 main_while0b_v62 (rfl : (.f32 : EltTy) = .f32) shapeCasts_S32_S4x8 ]

theorem tripTotal_sub : (tripTotal : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.unary_bufs_sub .., StableHlo.binary_bufs_sub .., StableHlo.reshape_bufs_sub .., StableHlo.reshape_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.reshape_bufs_sub .., StableHlo.reshape_bufs_sub ..⟩

theorem tripTotal_fresh : (tripTotal : List (HloOp τ sig (Elt F))).Forall fun op => op.fresh = ∅ := StableHlo.forall_fresh_of_map rfl

/-- What `tripTotal` writes, in order. -/
abbrev tripTotal_W : List (Ref sig .tc) := [main_while0b_v46, main_while0b_v47, main_while0b_c_10, main_while0b_v48, main_while0b_v49, main_while0b_v50, main_while0b_v51, main_while0b_v52, main_while0b_v53, main_while0b_cst_11, main_while0b_v54, main_while0b_v55, main_while0b_v56, main_while0b_cst_12, main_while0b_v57, main_while0b_cst_13, main_while0b_v58, main_while0b_v59, main_while0b_v60, main_while0b_v61, main_while0b_v62]

theorem tripTotal_off (V : Valuation τ sig (Elt F)) {r : Ref sig .tc} (h : r ∉ tripTotal_W) : after tripTotal V (Proc.devRef .tc r) = V (Proc.devRef .tc r) :=
  after_unwritten tripTotal_W rfl h V

/-- The loop's means, and which labels have points. -/
abbrev tripMean : List (HloOp τ sig (Elt F)) :=
  [ StableHlo.unary main_while0b_v62 main_while0b_v63 (broadcastInDim S4x8x1 ![0, 1] bcast_S4x8_S4x8x1_0_1 : (⟨S4x8, .f32⟩ : BufTy).Contents (Elt F) → (⟨S4x8x1, .f32⟩ : BufTy).Contents (Elt F)),
    StableHlo.nullary main_while0b_cst_14 (constant S_ .f32 0x00000000#32),
    StableHlo.unary main_while0b_cst_14 main_while0b_v64 (broadcastInDim S4x8x1 ![] bcast_S_S4x8x1 : (⟨S_, .f32⟩ : BufTy).Contents (Elt F) → (⟨S4x8x1, .f32⟩ : BufTy).Contents (Elt F)),
    StableHlo.binary main_while0b_v63 main_while0b_v64 main_while0b_v65 (cmpf .ogt : (⟨S4x8x1, .f32⟩ : BufTy).Contents (Elt F) → (⟨S4x8x1, .f32⟩ : BufTy).Contents (Elt F) → (⟨S4x8x1, .i1⟩ : BufTy).Contents (Elt F)),
    StableHlo.nullary main_while0b_cst_15 (constant S_ .f32 0x3F800000#32),
    StableHlo.unary main_while0b_cst_15 main_while0b_v66 (broadcastInDim S4x8 ![] bcast_S_S4x8 : (⟨S_, .f32⟩ : BufTy).Contents (Elt F) → (⟨S4x8, .f32⟩ : BufTy).Contents (Elt F)),
    StableHlo.binary main_while0b_v62 main_while0b_v66 main_while0b_v67 (maximumf : (⟨S4x8, .f32⟩ : BufTy).Contents (Elt F) → (⟨S4x8, .f32⟩ : BufTy).Contents (Elt F) → (⟨S4x8, .f32⟩ : BufTy).Contents (Elt F)),
    StableHlo.unary main_while0b_v67 main_while0b_v68 (broadcastInDim S4x8x1 ![0, 1] bcast_S4x8_S4x8x1_0_1 : (⟨S4x8, .f32⟩ : BufTy).Contents (Elt F) → (⟨S4x8x1, .f32⟩ : BufTy).Contents (Elt F)),
    StableHlo.unary main_while0b_v68 main_while0b_v69 (broadcastInDim S4x8x192 ![0, 1, 2] bcast_S4x8x1_S4x8x192_0_1_2 : (⟨S4x8x1, .f32⟩ : BufTy).Contents (Elt F) → (⟨S4x8x192, .f32⟩ : BufTy).Contents (Elt F)),
    StableHlo.binary main_while0b_v61 main_while0b_v69 main_while0b_v70 (Host.divf : (⟨S4x8x192, .f32⟩ : BufTy).Contents (Elt F) → (⟨S4x8x192, .f32⟩ : BufTy).Contents (Elt F) → (⟨S4x8x192, .f32⟩ : BufTy).Contents (Elt F)) ]

theorem tripMean_sub : (tripMean : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub ..⟩

theorem tripMean_fresh : (tripMean : List (HloOp τ sig (Elt F))).Forall fun op => op.fresh = ∅ := StableHlo.forall_fresh_of_map rfl

/-- What `tripMean` writes, in order. -/
abbrev tripMean_W : List (Ref sig .tc) := [main_while0b_v63, main_while0b_cst_14, main_while0b_v64, main_while0b_v65, main_while0b_cst_15, main_while0b_v66, main_while0b_v67, main_while0b_v68, main_while0b_v69, main_while0b_v70]

theorem tripMean_off (V : Valuation τ sig (Elt F)) {r : Ref sig .tc} (h : r ∉ tripMean_W) : after tripMean V (Proc.devRef .tc r) = V (Proc.devRef .tc r) :=
  after_unwritten tripMean_W rfl h V

/-- The loop's new centres: the old one where a label has no points. -/
abbrev tripKeep : List (HloOp τ sig (Elt F)) :=
  [ StableHlo.TRef.unary (.of main_while0b_v65 : StableHlo.TRef sig ⟨S4x8x1, .i1⟩) (.of main_while0b_call1_v0 : StableHlo.TRef sig ⟨S4x8x192, .i1⟩) (broadcastInDim S4x8x192 ![0, 1, 2] bcast_S4x8x1_S4x8x192_0_1_2),
    StableHlo.TRef.ternary (.of main_while0b_call1_v0 : StableHlo.TRef sig ⟨S4x8x192, .i1⟩) (.of main_while0b_v70 : StableHlo.TRef sig ⟨S4x8x192, .f32⟩) (.of main_v3_2 : StableHlo.TRef sig ⟨S4x8x192, .f32⟩) (.of main_while0b_v71 : StableHlo.TRef sig ⟨S4x8x192, .f32⟩) select ]

theorem tripKeep_sub : (tripKeep : List (HloOp τ sig (Elt F))).Forall fun op => op.bufs ⊆ StableHlo.tcRefs τ sig :=
  ⟨StableHlo.unary_bufs_sub .., StableHlo.ternary_bufs_sub ..⟩

theorem tripKeep_fresh : (tripKeep : List (HloOp τ sig (Elt F))).Forall fun op => op.fresh = ∅ := StableHlo.forall_fresh_of_map rfl

/-- What `tripKeep` writes, in order. -/
abbrev tripKeep_W : List (Ref sig .tc) := [main_while0b_call1_v0, main_while0b_v71]

theorem tripKeep_off (V : Valuation τ sig (Elt F)) {r : Ref sig .tc} (h : r ∉ tripKeep_W) : after tripKeep V (Proc.devRef .tc r) = V (Proc.devRef .tc r) :=
  after_unwritten tripKeep_W rfl h V

/-- The counter's step and the carried centres. -/
abbrev tripNext : List (HloOp τ sig (Elt F)) :=
  [ StableHlo.nullary main_while0b_c_16 (constantI S_ 32 1#32),
    StableHlo.binary main_v3_1 main_while0b_c_16 main_while0b_v72 (addi : (⟨S_, .i32⟩ : BufTy).Contents (Elt F) → (⟨S_, .i32⟩ : BufTy).Contents (Elt F) → (⟨S_, .i32⟩ : BufTy).Contents (Elt F)),
    StableHlo.unary main_while0b_v72 main_v3_1 id,
    StableHlo.unary main_while0b_v71 main_v3_2 id ]

theorem tripNext_sub : (tripNext : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub ..⟩

theorem tripNext_fresh : (tripNext : List (HloOp τ sig (Elt F))).Forall fun op => op.fresh = ∅ := StableHlo.forall_fresh_of_map rfl

/-- What `tripNext` writes, in order. -/
abbrev tripNext_W : List (Ref sig .tc) := [main_while0b_c_16, main_while0b_v72, main_v3_1, main_v3_2]

theorem tripNext_off (V : Valuation τ sig (Elt F)) {r : Ref sig .tc} (h : r ∉ tripNext_W) : after tripNext V (Proc.devRef .tc r) = V (Proc.devRef .tc r) :=
  after_unwritten tripNext_W rfl h V

/-- The squared distances after the loop. -/
abbrev lastDist : List (HloOp τ sig (Elt F)) :=
  [ StableHlo.unary main_v1 main_v4 (broadcastInDim S4x2304x1x192 ![0, 1, 3] bcast_S4x2304x192_S4x2304x1x192_0_1_3 : (⟨S4x2304x192, .f32⟩ : BufTy).Contents (Elt F) → (⟨S4x2304x1x192, .f32⟩ : BufTy).Contents (Elt F)),
    StableHlo.unary main_v3_2 main_v5 (broadcastInDim S4x1x8x192 ![0, 2, 3] bcast_S4x8x192_S4x1x8x192_0_2_3 : (⟨S4x8x192, .f32⟩ : BufTy).Contents (Elt F) → (⟨S4x1x8x192, .f32⟩ : BufTy).Contents (Elt F)),
    StableHlo.unary main_v4 main_v6 (broadcastInDim S4x2304x8x192 ![0, 1, 2, 3] bcast_S4x2304x1x192_S4x2304x8x192_0_1_2_3 : (⟨S4x2304x1x192, .f32⟩ : BufTy).Contents (Elt F) → (⟨S4x2304x8x192, .f32⟩ : BufTy).Contents (Elt F)),
    StableHlo.unary main_v5 main_v7 (broadcastInDim S4x2304x8x192 ![0, 1, 2, 3] bcast_S4x1x8x192_S4x2304x8x192_0_1_2_3 : (⟨S4x1x8x192, .f32⟩ : BufTy).Contents (Elt F) → (⟨S4x2304x8x192, .f32⟩ : BufTy).Contents (Elt F)),
    StableHlo.binary main_v6 main_v7 main_v8 (subf : (⟨S4x2304x8x192, .f32⟩ : BufTy).Contents (Elt F) → (⟨S4x2304x8x192, .f32⟩ : BufTy).Contents (Elt F) → (⟨S4x2304x8x192, .f32⟩ : BufTy).Contents (Elt F)),
    StableHlo.binary main_v8 main_v8 main_v9 (mulf : (⟨S4x2304x8x192, .f32⟩ : BufTy).Contents (Elt F) → (⟨S4x2304x8x192, .f32⟩ : BufTy).Contents (Elt F) → (⟨S4x2304x8x192, .f32⟩ : BufTy).Contents (Elt F)),
    StableHlo.nullary main_cst (constant S_ .f32 0x00000000#32),
    StableHlo.binary main_v9 main_cst main_v10 ((fun x v => Host.reduceAdd x v reducesTo_S4x2304x8x192_S4x2304x8_d3 h_S_) : (⟨S4x2304x8x192, .f32⟩ : BufTy).Contents (Elt F) → (⟨S_, .f32⟩ : BufTy).Contents (Elt F) → (⟨S4x2304x8, .f32⟩ : BufTy).Contents (Elt F)) ]

theorem lastDist_sub : (lastDist : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub ..⟩

theorem lastDist_fresh : (lastDist : List (HloOp τ sig (Elt F))).Forall fun op => op.fresh = ∅ := StableHlo.forall_fresh_of_map rfl

/-- What `lastDist` writes, in order. -/
abbrev lastDist_W : List (Ref sig .tc) := [main_v4, main_v5, main_v6, main_v7, main_v8, main_v9, main_cst, main_v10]

theorem lastDist_off (V : Valuation τ sig (Elt F)) {r : Ref sig .tc} (h : r ∉ lastDist_W) : after lastDist V (Proc.devRef .tc r) = V (Proc.devRef .tc r) :=
  after_unwritten lastDist_W rfl h V

/-- The labels after the loop. -/
abbrev lastLabel : List (HloOp τ sig (Elt F)) :=
  [ StableHlo.TRef.nullary (.of main_call2_v0 : StableHlo.TRef sig ⟨S4x2304x8, .i32⟩) (iotaInDim S4x2304x8 32 2),
    StableHlo.TRef.nullary (.of main_call2_cst : StableHlo.TRef sig ⟨S_, .f32⟩) (constant S_ .f32 0x7F800000#32),
    StableHlo.TRef.nullary (.of main_call2_c : StableHlo.TRef sig ⟨S_, .i32⟩) (constantI S_ 32 0#32),
    StableHlo.TRef.quaternary (.of main_v10 : StableHlo.TRef sig ⟨S4x2304x8, .f32⟩) (.of main_call2_v0 : StableHlo.TRef sig ⟨S4x2304x8, .i32⟩) (.of main_call2_cst : StableHlo.TRef sig ⟨S_, .f32⟩) (.of main_call2_c : StableHlo.TRef sig ⟨S_, .i32⟩) (.of main_call2_v1_0 : StableHlo.TRef sig ⟨S4x2304, .f32⟩) (fun x y u v j => (Host.argReduce reducer_argmin_f32_i32 x y u v reducesTo_S4x2304x8_S4x2304_d2 h_S_ j).1),
    StableHlo.TRef.quaternary (.of main_v10 : StableHlo.TRef sig ⟨S4x2304x8, .f32⟩) (.of main_call2_v0 : StableHlo.TRef sig ⟨S4x2304x8, .i32⟩) (.of main_call2_cst : StableHlo.TRef sig ⟨S_, .f32⟩) (.of main_call2_c : StableHlo.TRef sig ⟨S_, .i32⟩) (.of main_v11 : StableHlo.TRef sig ⟨S4x2304, .i32⟩) (fun x y u v j => (Host.argReduce reducer_argmin_f32_i32 x y u v reducesTo_S4x2304x8_S4x2304_d2 h_S_ j).2) ]

theorem lastLabel_sub : (lastLabel : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

theorem lastLabel_fresh : (lastLabel : List (HloOp τ sig (Elt F))).Forall fun op => op.fresh = ∅ := StableHlo.forall_fresh_of_map rfl

/-- What `lastLabel` writes, in order. -/
abbrev lastLabel_W : List (Ref sig .tc) := [main_call2_v0, main_call2_cst, main_call2_c, main_call2_v1_0, main_v11]

theorem lastLabel_off (V : Valuation τ sig (Elt F)) {r : Ref sig .tc} (h : r ∉ lastLabel_W) : after lastLabel V (Proc.devRef .tc r) = V (Proc.devRef .tc r) :=
  after_unwritten lastLabel_W rfl h V

/-- The sums and numbers of the points of every label after the loop. -/
abbrev lastTotal : List (HloOp τ sig (Elt F)) :=
  [ StableHlo.nullary main_v12 (iotaInDim S4 32 0),
    StableHlo.unary main_v12 main_v13 (broadcastInDim S4x1 ![0] bcast_S4_S4x1_0 : (⟨S4, .i32⟩ : BufTy).Contents (Elt F) → (⟨S4x1, .i32⟩ : BufTy).Contents (Elt F)),
    StableHlo.nullary main_c_0 (constantI S_ 32 8#32),
    StableHlo.unary main_c_0 main_v14 (broadcastInDim S4x1 ![] bcast_S_S4x1 : (⟨S_, .i32⟩ : BufTy).Contents (Elt F) → (⟨S4x1, .i32⟩ : BufTy).Contents (Elt F)),
    StableHlo.binary main_v13 main_v14 main_v15 (muli : (⟨S4x1, .i32⟩ : BufTy).Contents (Elt F) → (⟨S4x1, .i32⟩ : BufTy).Contents (Elt F) → (⟨S4x1, .i32⟩ : BufTy).Contents (Elt F)),
    StableHlo.unary main_v15 main_v16 (broadcastInDim S4x2304 ![0, 1] bcast_S4x1_S4x2304_0_1 : (⟨S4x1, .i32⟩ : BufTy).Contents (Elt F) → (⟨S4x2304, .i32⟩ : BufTy).Contents (Elt F)),
    StableHlo.binary main_v16 main_v11 main_v17 (addi : (⟨S4x2304, .i32⟩ : BufTy).Contents (Elt F) → (⟨S4x2304, .i32⟩ : BufTy).Contents (Elt F) → (⟨S4x2304, .i32⟩ : BufTy).Contents (Elt F)),
    StableHlo.reshape main_v17 main_v18 (rfl : (.i32 : EltTy) = .i32) shapeCasts_S4x2304_S9216,
    StableHlo.reshape main_v1 main_v19 (rfl : (.f32 : EltTy) = .f32) shapeCasts_S4x2304x192_S9216x192,
    StableHlo.nullary main_cst_1 (constant S_ .f32 0x00000000#32),
    StableHlo.unary main_cst_1 main_v20 (broadcastInDim S32x192 ![] bcast_S_S32x192 : (⟨S_, .f32⟩ : BufTy).Contents (Elt F) → (⟨S32x192, .f32⟩ : BufTy).Contents (Elt F)),
    StableHlo.unary main_v18 main_v21 (broadcastInDim S9216x1 ![0] bcast_S9216_S9216x1_0 : (⟨S9216, .i32⟩ : BufTy).Contents (Elt F) → (⟨S9216x1, .i32⟩ : BufTy).Contents (Elt F)),
    StableHlo.ternary main_v20 main_v21 main_v19 main_v22 ((fun x i u => Host.scatterAdd scatter_S32x192_S9216x1_S9216x192_1_0_0_1 x i u) : (⟨S32x192, .f32⟩ : BufTy).Contents (Elt F) → (⟨S9216x1, .i32⟩ : BufTy).Contents (Elt F) → (⟨S9216x192, .f32⟩ : BufTy).Contents (Elt F) → (⟨S32x192, .f32⟩ : BufTy).Contents (Elt F)),
    StableHlo.nullary main_cst_2 (constant S_ .f32 0x3F800000#32),
    StableHlo.unary main_cst_2 main_v23 (broadcastInDim S9216 ![] bcast_S_S9216 : (⟨S_, .f32⟩ : BufTy).Contents (Elt F) → (⟨S9216, .f32⟩ : BufTy).Contents (Elt F)),
    StableHlo.nullary main_cst_3 (constant S_ .f32 0x00000000#32),
    StableHlo.unary main_cst_3 main_v24 (broadcastInDim S32 ![] bcast_S_S32 : (⟨S_, .f32⟩ : BufTy).Contents (Elt F) → (⟨S32, .f32⟩ : BufTy).Contents (Elt F)),
    StableHlo.unary main_v18 main_v25 (broadcastInDim S9216x1 ![0] bcast_S9216_S9216x1_0 : (⟨S9216, .i32⟩ : BufTy).Contents (Elt F) → (⟨S9216x1, .i32⟩ : BufTy).Contents (Elt F)),
    StableHlo.ternary main_v24 main_v25 main_v23 main_v26 ((fun x i u => Host.scatterAdd scatter_S32_S9216x1_S9216_n_0_0_1 x i u) : (⟨S32, .f32⟩ : BufTy).Contents (Elt F) → (⟨S9216x1, .i32⟩ : BufTy).Contents (Elt F) → (⟨S9216, .f32⟩ : BufTy).Contents (Elt F) → (⟨S32, .f32⟩ : BufTy).Contents (Elt F)),
    StableHlo.reshape main_v22 main_v27 (rfl : (.f32 : EltTy) = .f32) shapeCasts_S32x192_S4x8x192,
    StableHlo.reshape main_v26 main_v28 (rfl : (.f32 : EltTy) = .f32) shapeCasts_S32_S4x8 ]

theorem lastTotal_sub : (lastTotal : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.unary_bufs_sub .., StableHlo.binary_bufs_sub .., StableHlo.reshape_bufs_sub .., StableHlo.reshape_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.reshape_bufs_sub .., StableHlo.reshape_bufs_sub ..⟩

theorem lastTotal_fresh : (lastTotal : List (HloOp τ sig (Elt F))).Forall fun op => op.fresh = ∅ := StableHlo.forall_fresh_of_map rfl

/-- What `lastTotal` writes, in order. -/
abbrev lastTotal_W : List (Ref sig .tc) := [main_v12, main_v13, main_c_0, main_v14, main_v15, main_v16, main_v17, main_v18, main_v19, main_cst_1, main_v20, main_v21, main_v22, main_cst_2, main_v23, main_cst_3, main_v24, main_v25, main_v26, main_v27, main_v28]

theorem lastTotal_off (V : Valuation τ sig (Elt F)) {r : Ref sig .tc} (h : r ∉ lastTotal_W) : after lastTotal V (Proc.devRef .tc r) = V (Proc.devRef .tc r) :=
  after_unwritten lastTotal_W rfl h V

/-- The means after the loop, and which labels have points. -/
abbrev lastMean : List (HloOp τ sig (Elt F)) :=
  [ StableHlo.unary main_v28 main_v29 (broadcastInDim S4x8x1 ![0, 1] bcast_S4x8_S4x8x1_0_1 : (⟨S4x8, .f32⟩ : BufTy).Contents (Elt F) → (⟨S4x8x1, .f32⟩ : BufTy).Contents (Elt F)),
    StableHlo.nullary main_cst_4 (constant S_ .f32 0x00000000#32),
    StableHlo.unary main_cst_4 main_v30 (broadcastInDim S4x8x1 ![] bcast_S_S4x8x1 : (⟨S_, .f32⟩ : BufTy).Contents (Elt F) → (⟨S4x8x1, .f32⟩ : BufTy).Contents (Elt F)),
    StableHlo.binary main_v29 main_v30 main_v31 (cmpf .ogt : (⟨S4x8x1, .f32⟩ : BufTy).Contents (Elt F) → (⟨S4x8x1, .f32⟩ : BufTy).Contents (Elt F) → (⟨S4x8x1, .i1⟩ : BufTy).Contents (Elt F)),
    StableHlo.nullary main_cst_5 (constant S_ .f32 0x3F800000#32),
    StableHlo.unary main_cst_5 main_v32 (broadcastInDim S4x8 ![] bcast_S_S4x8 : (⟨S_, .f32⟩ : BufTy).Contents (Elt F) → (⟨S4x8, .f32⟩ : BufTy).Contents (Elt F)),
    StableHlo.binary main_v28 main_v32 main_v33 (maximumf : (⟨S4x8, .f32⟩ : BufTy).Contents (Elt F) → (⟨S4x8, .f32⟩ : BufTy).Contents (Elt F) → (⟨S4x8, .f32⟩ : BufTy).Contents (Elt F)),
    StableHlo.unary main_v33 main_v34 (broadcastInDim S4x8x1 ![0, 1] bcast_S4x8_S4x8x1_0_1 : (⟨S4x8, .f32⟩ : BufTy).Contents (Elt F) → (⟨S4x8x1, .f32⟩ : BufTy).Contents (Elt F)),
    StableHlo.unary main_v34 main_v35 (broadcastInDim S4x8x192 ![0, 1, 2] bcast_S4x8x1_S4x8x192_0_1_2 : (⟨S4x8x1, .f32⟩ : BufTy).Contents (Elt F) → (⟨S4x8x192, .f32⟩ : BufTy).Contents (Elt F)),
    StableHlo.binary main_v27 main_v35 main_v36 (Host.divf : (⟨S4x8x192, .f32⟩ : BufTy).Contents (Elt F) → (⟨S4x8x192, .f32⟩ : BufTy).Contents (Elt F) → (⟨S4x8x192, .f32⟩ : BufTy).Contents (Elt F)),
    StableHlo.nullary main_cst_6 (constant S_ .f32 0x00000000#32) ]

theorem lastMean_sub : (lastMean : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩

theorem lastMean_fresh : (lastMean : List (HloOp τ sig (Elt F))).Forall fun op => op.fresh = ∅ := StableHlo.forall_fresh_of_map rfl

/-- What `lastMean` writes, in order. -/
abbrev lastMean_W : List (Ref sig .tc) := [main_v29, main_cst_4, main_v30, main_v31, main_cst_5, main_v32, main_v33, main_v34, main_v35, main_v36, main_cst_6]

theorem lastMean_off (V : Valuation τ sig (Elt F)) {r : Ref sig .tc} (h : r ∉ lastMean_W) : after lastMean V (Proc.devRef .tc r) = V (Proc.devRef .tc r) :=
  after_unwritten lastMean_W rfl h V

/-- The final means: zero where a label has no points. -/
abbrev lastKeep : List (HloOp τ sig (Elt F)) :=
  [ StableHlo.TRef.unary (.of main_cst_6 : StableHlo.TRef sig ⟨S_, .f32⟩) (.of main_call3_v0 : StableHlo.TRef sig ⟨S_, .f32⟩) id,
    StableHlo.TRef.unary (.of main_v31 : StableHlo.TRef sig ⟨S4x8x1, .i1⟩) (.of main_call3_v1 : StableHlo.TRef sig ⟨S4x8x192, .i1⟩) (broadcastInDim S4x8x192 ![0, 1, 2] bcast_S4x8x1_S4x8x192_0_1_2),
    StableHlo.TRef.unary (.of main_call3_v0 : StableHlo.TRef sig ⟨S_, .f32⟩) (.of main_call3_v2 : StableHlo.TRef sig ⟨S4x8x192, .f32⟩) (broadcastInDim S4x8x192 ![] bcast_S_S4x8x192),
    StableHlo.TRef.ternary (.of main_call3_v1 : StableHlo.TRef sig ⟨S4x8x192, .i1⟩) (.of main_v36 : StableHlo.TRef sig ⟨S4x8x192, .f32⟩) (.of main_call3_v2 : StableHlo.TRef sig ⟨S4x8x192, .f32⟩) (.of main_v37 : StableHlo.TRef sig ⟨S4x8x192, .f32⟩) select ]

theorem lastKeep_sub : (lastKeep : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩

theorem lastKeep_fresh : (lastKeep : List (HloOp τ sig (Elt F))).Forall fun op => op.fresh = ∅ := StableHlo.forall_fresh_of_map rfl

/-- What `lastKeep` writes, in order. -/
abbrev lastKeep_W : List (Ref sig .tc) := [main_call3_v0, main_call3_v1, main_call3_v2, main_v37]

theorem lastKeep_off (V : Valuation τ sig (Elt F)) {r : Ref sig .tc} (h : r ∉ lastKeep_W) : after lastKeep V (Proc.devRef .tc r) = V (Proc.devRef .tc r) :=
  after_unwritten lastKeep_W rfl h V

end Cert.KMeans.Reference

end
-- ==== Proof.RefLaunch.lean ====
/-
  THE REFERENCE'S RUN: it enters a loop of ten iterations, counted by a counter from zero, and ends with every buffer as its
  operations leave it, in order.
-/
module

public import proofs.«01_k».proof.Proof.RefLists
public import Idealize.ShloMosaic.Lib.Scf.ExitTest
public import Idealize.ShloMosaic.Lib.Scf.Counter

@[expose] public section

noncomputable section

namespace Cert.KMeans.Reference

open Idealize.ShloMosaic Idealize.ShloMosaic.TcCoe Idealize.ShloMosaic.Tactic Idealize.ShloMosaic.StableHlo
open Idealize.ShloMosaic.Pipeline (sub_ucRefs)
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

variable {F : FTy → Type} [FloatOps F]

/-- The program is its stretches around the loop. -/
theorem main_stretches (c : Dev nD) : main (F := F) c = (Pipeline.chain
    [seq onset, HostLoop.enter 0, seq lastDist, seq lastLabel, seq lastTotal, seq lastMean, seq lastKeep] :
    Prog (TpuEff nD τ sig (Elt F) (HostLoop.Sig (Pipeline.Sig Λ₀ (Fin 0) fun p => (pcfgs (F := F) p).Adm) 1) .tc) PUnit) := by
  rewrite [chain_seq_cons, Pipeline.chain_cons, chain_seq_cons, Pipeline.chain_cons, chain_seq_cons, chain_seq_cons, Pipeline.chain_cons]
  chain_rfl

/-- One iteration is its stretches. -/
theorem trip_stretches : main_while0_body (F := F) = (Pipeline.chain
    [seq tripDist, seq tripLabel, seq tripTotal, seq tripMean, seq tripKeep, seq tripNext] :
    Prog (TpuEff nD τ sig (Elt F) (HostLoop.Sig (Pipeline.Sig Λ₀ (Fin 0) fun p => (pcfgs (F := F) p).Adm) 1) .tc) PUnit) := by
  rewrite [chain_seq_cons, Pipeline.chain_cons, chain_seq_cons, chain_seq_cons, Pipeline.chain_cons, chain_seq_cons]
  chain_rfl

/-- What the loop asks: is the counter below ten? -/
abbrev asks : List (HloOp τ sig (Elt F)) :=
  [ StableHlo.nullary main_while0c_c_9 (constantI S_ 32 10#32),
    StableHlo.binary main_v3_1 main_while0c_c_9 main_while0c_v38 (cmpi .slt) ]

theorem asks_off (V : Valuation τ sig (Elt F)) {r : Ref sig .tc} (h : r ∉ [main_while0c_c_9, main_while0c_v38]) :
    after asks V (Proc.devRef .tc r) = V (Proc.devRef .tc r) :=
  after_unwritten [main_while0c_c_9, main_while0c_v38] rfl h V

/-- The stretches before the loop, of an iteration, and after the loop. -/
abbrev befores : List (List (HloOp τ sig (Elt F))) := [onset]
abbrev trips : List (List (HloOp τ sig (Elt F))) := [tripDist, tripLabel, tripTotal, tripMean, tripKeep, tripNext]
abbrev afters : List (List (HloOp τ sig (Elt F))) := [lastDist, lastLabel, lastTotal, lastMean, lastKeep]

/-- Stretches that touch the device's own buffers only and allocate none, one more. -/
theorem plain_cons {ops : List (HloOp τ sig (Elt F))} {l : List (List (HloOp τ sig (Elt F)))}
    (hs : ops.Forall fun op => op.bufs ⊆ tcRefs τ sig) (hf : ops.Forall fun op => op.fresh = ∅) (h : Plain l) : Plain (ops :: l) :=
  .cons hs (hf := List.forall_iff_forall_mem.mp hf) h

theorem befores_plain : Plain (befores (F := F)) := plain_cons onset_sub onset_fresh .nil
theorem trips_plain : Plain (trips (F := F)) :=
  plain_cons tripDist_sub tripDist_fresh <| plain_cons tripLabel_sub tripLabel_fresh <| plain_cons tripTotal_sub tripTotal_fresh <|
    plain_cons tripMean_sub tripMean_fresh <| plain_cons tripKeep_sub tripKeep_fresh <| plain_cons tripNext_sub tripNext_fresh .nil
theorem afters_plain : Plain (afters (F := F)) :=
  plain_cons lastDist_sub lastDist_fresh <| plain_cons lastLabel_sub lastLabel_fresh <| plain_cons lastTotal_sub lastTotal_fresh <|
    plain_cons lastMean_sub lastMean_fresh <| plain_cons lastKeep_sub lastKeep_fresh .nil

/-- A buffer that only `tripNext` may write, or none, is after an iteration as `tripNext` leaves it. -/
theorem trips_off (V : Valuation τ sig (Elt F)) {r : Ref sig .tc} (h₁ : r ∉ tripDist_W) (h₂ : r ∉ tripLabel_W) (h₃ : r ∉ tripTotal_W)
    (h₄ : r ∉ tripMean_W) (h₅ : r ∉ tripKeep_W) :
    after tripKeep (after tripMean (after tripTotal (after tripLabel (after tripDist V)))) (Proc.devRef .tc r) = V (Proc.devRef .tc r) := by
  rw [tripKeep_off _ h₅, tripMean_off _ h₄, tripTotal_off _ h₃, tripLabel_off _ h₂, tripDist_off _ h₁]

theorem tripNext_counter (V : Valuation τ sig (Elt F)) :
    after tripNext V (Proc.devRef .tc main_v3_1) = addi (V (Proc.devRef .tc main_v3_1)) (constantI S_ 32 1#32) := by
  after_reads_simp
  rfl

variable (m : (ℓ : Loc nD τ sig) → Buf (Elt F) ℓ) (ρ : Dev nD → PrngReg)

/-- Every buffer before the loop asks for the `k`-th time, counted from zero. -/
abbrev asked (k : ℕ) (c : Dev nD) : Valuation τ sig (Elt F) := atTrip asks trips (entryContents befores m) k c

theorem counter_entry (c : Dev nD) : entryContents befores m c (Proc.devRef .tc main_v3_1) = fun _ => (0#32 : BitVec 32) := by
  simp only [entryContents, afterL_cons, afterL_nil]
  after_reads_simp
  rfl

/-- The counter counts the iterations. -/
theorem counter (c : Dev nD) : ∀ k, asked m k c (Proc.devRef .tc main_v3_1) = fun _ => Scf.iv 0#32 1#32 k
  | 0 => by rw [show asked m 0 c = entryContents befores m c from rfl, counter_entry, Scf.iv_zero]
  | k + 1 => by
    rw [show asked m (k + 1) c = afterL trips (after asks (asked m k c)) from rfl]
    simp only [afterL_cons, afterL_nil]
    rw [tripNext_counter, trips_off _ (by decide) (by decide) (by decide) (by decide) (by decide), asks_off _ (by decide), counter c k,
      Scf.iv_succ]
    rfl

set_option backward.isDefEq.respectTransparency.types false in
/-- The loop goes on while fewer than ten iterations are done. -/
theorem ten_trips : CondSpec (pcfgs (F := F)) defs₀ loops (main_while0_cond (F := F)) asks trips (entryContents befores m) 10 := by
  intro k hk c bd
  have hctr := counter m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (asked m k c) main_v3_1 HostLoop.idx0)
        (HloOp.result _ (asked m k c) main_while0c_c_9 HostLoop.idx0) = 1#1) (k < 10)
    rw [nullary_result_ne _ _ _ _ (by decide), nullary_result, hctr]
    exact Scf.cmpi_slt_iv_ub_iff (lb := 0#32) (ub := 10#32) (st := 1#32) (by decide) (show k ≤ Scf.trips 0#32 10#32 1#32 from hk)
  isplitl [Hb]; · iexact Hb
  rw [after_cons, after_cons, after_nil]; iexact Hh

set_option maxRecDepth 100000 in
/-- THE RUN: every buffer ends as the stretches leave it, the iteration's ten times. -/
theorem run_stretches : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents asks befores trips afters 10 m c (Proc.devRef .tc b)) :=
  run_loop (pcfgs (F := F)) defs₀ loops main 0 main_while0_cond main_while0_body rfl befores trips afters asks
    befores_plain trips_plain afters_plain (fun c => by rw [main_stretches]; rfl) (by rw [trip_stretches]; rfl) 10 m ρ (ten_trips m)

end Cert.KMeans.Reference

end
-- ==== Proof.Spec.lean ====
/-
  K-MEANS OVER THE REALS, for one batch: `P` points and eight centres in `D` dimensions. The functions here are the
  mathematics that both programs are shown to compute; nothing here speaks of a program.
-/
module

public import Mathlib.Data.EReal.Basic
public import Mathlib.Data.EReal.Operations
public import Mathlib.Algebra.BigOperators.Ring.Finset
public import Mathlib.Algebra.Order.BigOperators.Group.Finset
public import Mathlib.Data.Finset.Max
public import Mathlib.Tactic.Ring
public import Mathlib.Tactic.Linarith

@[expose] public section

noncomputable section

namespace Cert.KMeans

/-- `k` is the first place at which `d` is least. -/
def FirstMin (d : Fin 8 → ℝ) (k : Fin 8) : Prop := (∀ j, d k ≤ d j) ∧ ∀ j, j < k → d k < d j

/-- There is such a place. -/
theorem exists_firstMin (d : Fin 8 → ℝ) : ∃ k, FirstMin d k := by
  classical
  obtain ⟨a, _, ha⟩ := Finset.exists_min_image Finset.univ d ⟨0, Finset.mem_univ _⟩
  have hne : (Finset.univ.filter fun k => ∀ j, d k ≤ d j).Nonempty :=
    ⟨a, Finset.mem_filter.2 ⟨Finset.mem_univ _, fun j => ha j (Finset.mem_univ _)⟩⟩
  have hm := (Finset.mem_filter.1 (Finset.min'_mem _ hne)).2
  refine ⟨_, hm, fun j hj => lt_of_le_of_ne (hm j) fun he => ?_⟩
  refine absurd (Finset.min'_le _ j (Finset.mem_filter.2 ⟨Finset.mem_univ _, fun i => ?_⟩)) (not_le.2 hj)
  exact he ▸ hm i

/-- There is only one. -/
theorem FirstMin.unique {d : Fin 8 → ℝ} {k l : Fin 8} (hk : FirstMin d k) (hl : FirstMin d l) : k = l := by
  rcases lt_trichotomy k l with h | h | h
  · exact absurd (hl.2 k h) (not_lt.2 (hk.1 l))
  · exact h
  · exact absurd (hk.2 l h) (not_lt.2 (hl.1 k))

/-- Adding one number to every entry moves no place. -/
theorem FirstMin.congr_add {d e : Fin 8 → ℝ} {k : Fin 8} (a : ℝ) (h : ∀ j, e j = d j + a) (hk : FirstMin e k) :
    FirstMin d k :=
  ⟨fun j => by have := hk.1 j; rw [h, h] at this; linarith,
    fun j hj => by have := hk.2 j hj; rw [h, h] at this; linarith⟩

/-- The first place at which `d` is least. -/
def first (d : Fin 8 → ℝ) : Fin 8 := Classical.choose (exists_firstMin d)

theorem first_spec (d : Fin 8 → ℝ) : FirstMin d (first d) := Classical.choose_spec (exists_firstMin d)

theorem FirstMin.eq_first {d : Fin 8 → ℝ} {k : Fin 8} (h : FirstMin d k) : k = first d := h.unique (first_spec d)

variable {P D : ℕ}

/-- The squared distance of point `n` to centre `k`. -/
def dist (X : Fin P → Fin D → ℝ) (C : Fin 8 → Fin D → ℝ) (n : Fin P) (k : Fin 8) : ℝ := ∑ c, (X n c - C k c) * (X n c - C k c)

/-- The squared distance less the point's own square, as the expanded product has it. -/
def score (X : Fin P → Fin D → ℝ) (C : Fin 8 → Fin D → ℝ) (n : Fin P) (k : Fin 8) : ℝ :=
  (∑ c, C k c * C k c) + ∑ c, (-2 * C k c) * X n c

theorem dist_eq_score_add (X : Fin P → Fin D → ℝ) (C : Fin 8 → Fin D → ℝ) (n : Fin P) (k : Fin 8) :
    dist X C n k = score X C n k + ∑ c, X n c * X n c := by
  unfold dist score
  rw [← Finset.sum_add_distrib, ← Finset.sum_add_distrib]
  exact Finset.sum_congr rfl fun c _ => by ring

/-- The label of point `n`: the nearest centre, the first of equally near ones. -/
def lab (X : Fin P → Fin D → ℝ) (C : Fin 8 → Fin D → ℝ) (n : Fin P) : Fin 8 := first (dist X C n)

/-- The least score is at the nearest centre. -/
theorem first_score (X : Fin P → Fin D → ℝ) (C : Fin 8 → Fin D → ℝ) (n : Fin P) : first (score X C n) = lab X C n :=
  ((first_spec (dist X C n)).congr_add (∑ c, X n c * X n c) (fun j => dist_eq_score_add X C n j)).eq_first.symm

/-- How many points have label `k`. -/
def cnt (l : Fin P → Fin 8) (k : Fin 8) : ℝ := ∑ n, if l n = k then 1 else 0

/-- The sum of coordinate `c` over the points with label `k`. -/
def tot (X : Fin P → Fin D → ℝ) (l : Fin P → Fin 8) (k : Fin 8) (c : Fin D) : ℝ := ∑ n, if l n = k then X n c else 0

/-- The mean of the points with label `k`, or what `Z` says if there is none. -/
def mean (X : Fin P → Fin D → ℝ) (l : Fin P → Fin 8) (Z : Fin 8 → Fin D → ℝ) (k : Fin 8) (c : Fin D) : ℝ :=
  if 0 < cnt l k then tot X l k c * (max (cnt l k) 1)⁻¹ else Z k c

/-- One iteration: every centre goes to the mean of its points, and stays where it is if it has none. -/
def next (X : Fin P → Fin D → ℝ) (C : Fin 8 → Fin D → ℝ) : Fin 8 → Fin D → ℝ := mean X (lab X C) C

/-- The centres after `t` iterations from `C`. -/
def cents (X : Fin P → Fin D → ℝ) (C : Fin 8 → Fin D → ℝ) : ℕ → Fin 8 → Fin D → ℝ
  | 0 => C
  | t + 1 => next X (cents X C t)

/-- The centres of a batch after `t` iterations: from its first eight points on. -/
def centresOf (X : Fin 2304 → Fin 192 → ℝ) (t : ℕ) : Fin 8 → Fin 192 → ℝ :=
  cents X (fun k => X (Fin.castLE (by omega) k)) t

/-- The labels of a batch: the nearest of the centres after ten iterations. -/
def labelsOf (X : Fin 2304 → Fin 192 → ℝ) : Fin 2304 → Fin 8 := lab X (centresOf X 10)

/-- The means of a batch for its labels, zero where there is no point. -/
def finalOf (X : Fin 2304 → Fin 192 → ℝ) : Fin 8 → Fin 192 → ℝ := mean X (labelsOf X) fun _ _ => 0

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A choice of reals, read in the extended reals. -/
theorem coe_ite (p : Prop) [Decidable p] (a b : ℝ) : ((if p then a else b : ℝ) : EReal) = if p then (a : EReal) else b := by
  split <;> rfl

end Cert.KMeans

end
-- ==== Proof.Mean.lean ====
/-
  QUOTIENTS AND MEANS of reals, as the extended reals' operations give them.
-/
module

public import proofs.«01_k».proof.Proof.Spec
public import Idealize.ShloMosaic.Lib.Pointwise
public import Idealize.ShloMosaic.Lib.IdealHost

@[expose] public section

noncomputable section

namespace Cert.KMeans

open Idealize.ShloMosaic

/-- A quotient of reals by one that is not zero, the value it has over the extended reals. -/
theorem div_coe (a b : ℝ) (hb : b ≠ 0) : Ideal.div (a : EReal) (b : EReal) = ((a * b⁻¹ : ℝ) : EReal) := by
  unfold Ideal.div
  rw [if_neg (by exact_mod_cast hb), EReal.coe_mul, EReal.coe_inv]

/-- The choice of a mean, read over the extended reals. -/
theorem mean_coe {P D : ℕ} (X : Fin P → Fin D → ℝ) (L : Fin P → Fin 8) (Z : Fin 8 → Fin D → ℝ) (k : Fin 8) (c : Fin D) :
    (if 0 < (cnt L k : EReal) then Ideal.div (tot X L k c : EReal) (max (cnt L k : EReal) 1) else (Z k c : EReal))
      = (mean X L Z k c : EReal) := by
  have h1 : (max (cnt L k : EReal) 1) = ((max (cnt L k) 1 : ℝ) : EReal) := by
    rw [← EReal.coe_one]; exact (EReal.coe_strictMono.monotone.map_max).symm
  rw [h1, div_coe _ _ (lt_of_lt_of_le one_pos (le_max_right _ _)).ne']
  unfold mean
  by_cases h : 0 < cnt L k
  · rw [if_pos h, if_pos (by exact_mod_cast h)]
  · rw [if_neg h, if_neg (by exact_mod_cast h)]

end Cert.KMeans

end
-- ==== Proof.RefScatter.lean ====
/-
  SUMS BY SEGMENT: a scatter that adds every row (or one) to the row its index word names, read at an entry: the starting
  value and the sum over the rows whose word is that entry's row.
-/
module

public import proofs.«01_k».proof.Proof.Gen.ReferenceIdeal
public import Idealize.ShloMosaic.Lib.Pointwise
public import Idealize.ShloMosaic.Lib.IdealHost

@[expose] public section

set_option maxRecDepth 16384

noncomputable section

namespace Cert.KMeans.Reference

open Idealize.ShloMosaic Cert.ReferenceIdeal Cert.ReferenceIdeal.Gen

/-- An update lands at an entry exactly if, on every axis, its start and its window coordinate add up to the entry's. -/
theorem lands_iff {s si u : Shape} {w : ℕ} (d : ScatterDims s si u) (j : u.Idx) (idx : IVec si w) (i : s.Idx) :
    d.resultIdx? j idx = some i ↔ ∀ a, d.start j idx a + (d.window j a : ℤ) = ((i a : ℕ) : ℤ) := by
  unfold ScatterDims.resultIdx?
  constructor
  · intro h a
    by_cases hin : ∀ a, 0 ≤ d.start j idx a + d.window j a ∧ d.start j idx a + d.window j a < s.size a
    · rw [dif_pos hin] at h
      have := congrArg Fin.val (congrFun (Option.some.inj h) a)
      have h1 := hin a
      simp only at this
      omega
    · rw [dif_neg hin] at h; cases h
  · intro h
    have hin : ∀ a, 0 ≤ d.start j idx a + d.window j a ∧ d.start j idx a + d.window j a < s.size a := by
      intro a
      have := h a
      have := (i a).isLt
      omega
    rw [dif_pos hin]
    refine congrArg some (funext fun a => Fin.ext ?_)
    have := h a
    simp only
    omega

/-- A row of 192 numbers lands in the row its word names, column by column. -/
theorem lands_rows (idx : IVec S9216x1 32) (m : Fin 9216) (c' : Fin 192) (r : Fin 32) (c : Fin 192) :
    scatter_S32x192_S9216x1_S9216x192_1_0_0_1.resultIdx? (ix2 m c') idx = some (ix2 r c)
      ↔ (idx (ix2 m 0)).toInt = (r : ℕ) ∧ c' = c := by
  have s0 : scatter_S32x192_S9216x1_S9216x192_1_0_0_1.start (ix2 m c') idx (0 : Fin 2) = (idx (ix2 m 0)).toInt := by
    unfold ScatterDims.start
    rw [dif_pos (by decide)]
    refine congrArg (fun i => (idx i).toInt) (funext fun b => ?_)
    fin_cases b <;> rfl
  have s1 : scatter_S32x192_S9216x1_S9216x192_1_0_0_1.start (ix2 m c') idx (1 : Fin 2) = 0 := by
    unfold ScatterDims.start
    rw [dif_neg (by decide)]
  have w0 : scatter_S32x192_S9216x1_S9216x192_1_0_0_1.window (ix2 m c') (0 : Fin 2) = 0 := by
    unfold ScatterDims.window
    rw [dif_neg (by decide)]
  have w1 : scatter_S32x192_S9216x1_S9216x192_1_0_0_1.window (ix2 m c') (1 : Fin 2) = (c' : ℕ) := by
    unfold ScatterDims.window
    rw [dif_pos (by decide)]
    rfl
  rw [lands_iff]
  constructor
  · intro h
    have h0 := h (0 : Fin 2)
    have h1 := h (1 : Fin 2)
    rw [s0, w0] at h0
    rw [s1, w1] at h1
    simp only [ix2_0, ix2_1] at h0 h1
    exact ⟨by simpa using h0, Fin.ext (by omega)⟩
  · rintro ⟨h0, rfl⟩ a
    fin_cases a
    · show scatter_S32x192_S9216x1_S9216x192_1_0_0_1.start (ix2 m c') idx (0 : Fin 2) + (scatter_S32x192_S9216x1_S9216x192_1_0_0_1.window (ix2 m c') (0 : Fin 2) : ℤ) = ((r : ℕ) : ℤ)
      rw [s0, w0, h0]; simp
    · show scatter_S32x192_S9216x1_S9216x192_1_0_0_1.start (ix2 m c') idx (1 : Fin 2) + (scatter_S32x192_S9216x1_S9216x192_1_0_0_1.window (ix2 m c') (1 : Fin 2) : ℤ) = ((c' : ℕ) : ℤ)
      rw [s1, w1]; simp

/-- One number lands at the place its word names. -/
theorem lands_ones (idx : IVec S9216x1 32) (m : Fin 9216) (r : Fin 32) :
    scatter_S32_S9216x1_S9216_n_0_0_1.resultIdx? (ix1 m) idx = some (ix1 r) ↔ (idx (ix2 m 0)).toInt = (r : ℕ) := by
  have s0 : scatter_S32_S9216x1_S9216_n_0_0_1.start (ix1 m) idx (0 : Fin 1) = (idx (ix2 m 0)).toInt := by
    unfold ScatterDims.start
    rw [dif_pos (by decide)]
    refine congrArg (fun i => (idx i).toInt) (funext fun b => ?_)
    fin_cases b <;> rfl
  have w0 : scatter_S32_S9216x1_S9216_n_0_0_1.window (ix1 m) (0 : Fin 1) = 0 := by
    unfold ScatterDims.window
    rw [dif_neg (by decide)]
  rw [lands_iff]
  constructor
  · intro h
    have h0 := h (0 : Fin 1)
    rw [s0, w0] at h0
    simpa using h0
  · intro h0 a
    fin_cases a
    show scatter_S32_S9216x1_S9216_n_0_0_1.start (ix1 m) idx (0 : Fin 1) + (scatter_S32_S9216x1_S9216_n_0_0_1.window (ix1 m) (0 : Fin 1) : ℤ) = ((r : ℕ) : ℤ)
    rw [s0, w0, h0]; simp

/-- The segment sums of rows: an entry is its start and the sum of its column over the rows of its segment. -/
theorem scatter_rows (z : FVec Ideal S32x192 .f32) (idx : IVec S9216x1 32) (u : FVec Ideal S9216x192 .f32) (r : Fin 32) (c : Fin 192) :
    Host.scatterAdd scatter_S32x192_S9216x1_S9216x192_1_0_0_1 z idx u (ix2 r c)
      = z (ix2 r c) + ∑ m : Fin 9216, if (idx (ix2 m 0)).toInt = (r : ℕ) then u (ix2 m c) else 0 := by
  unfold Host.scatterAdd
  rw [Ideal.hostScatterAdd_def]
  unfold Ideal.hostScatterAdd
  refine congrArg (z (ix2 r c) + ·) ?_
  rw [Finset.sum_filter]
  refine (sum_idx2 _).trans (Finset.sum_congr rfl fun m _ => ?_)
  simp only [lands_rows, ite_and]
  by_cases h : (idx (ix2 m 0)).toInt = (r : ℕ)
  · simp [h]
  · simp [h]

/-- The segment sums of single numbers. -/
theorem scatter_ones (z : FVec Ideal S32 .f32) (idx : IVec S9216x1 32) (u : FVec Ideal S9216 .f32) (r : Fin 32) :
    Host.scatterAdd scatter_S32_S9216x1_S9216_n_0_0_1 z idx u (ix1 r)
      = z (ix1 r) + ∑ m : Fin 9216, if (idx (ix2 m 0)).toInt = (r : ℕ) then u (ix1 m) else 0 := by
  unfold Host.scatterAdd
  rw [Ideal.hostScatterAdd_def]
  unfold Ideal.hostScatterAdd
  refine congrArg (z (ix1 r) + ·) ?_
  rw [Finset.sum_filter]
  refine (sum_idx1 _).trans (Finset.sum_congr rfl fun m _ => ?_)
  simp only [lands_ones]

/-- A place of the flattened points: batch `b`, point `n`. -/
def flat (b : Fin 4) (n : Fin 2304) : Fin 9216 := ⟨b.val * 2304 + n.val, by omega⟩

/-- A row of the flattened sums: batch `b`, centre `k`. -/
def seg (b : Fin 4) (k : Fin 8) : Fin 32 := ⟨b.val * 8 + k.val, by omega⟩

/-- A sum over the flattened points, batch by batch. -/
theorem sum_flat {M : Type} [AddCommMonoid M] (f : Fin 9216 → M) : ∑ m, f m = ∑ b, ∑ n, f (flat b n) := by
  rw [← Fintype.sum_prod_type']
  refine (Fintype.sum_equiv (finProdFinEquiv (m := 4) (n := 2304)) _ _ fun p => ?_).symm
  refine congrArg f (Fin.ext ?_)
  show p.1.val * 2304 + p.2.val = p.2.val + 2304 * p.1.val
  omega

/-- A small number as a word, read signed: the number. -/
theorem toInt_small {a : ℕ} (h : a < 4096) : (BitVec.ofNat 32 a).toInt = a := by
  rw [BitVec.toInt_eq_toNat_cond, BitVec.toNat_ofNat]
  split <;> omega

/-- The segments are numbered apart. -/
theorem seg_eq_iff (b b' : Fin 4) (k k' : Fin 8) : (((seg b k : Fin 32) : ℕ) : ℤ) = ((seg b' k' : Fin 32) : ℕ) ↔ b = b' ∧ k = k' := by
  simp only [seg, Fin.ext_iff]
  omega

/-- Over the points whose segment is batch `b`'s centre `k`, only that batch's with that label count. -/
theorem sum_seg (idx : IVec S9216x1 32) (L : Fin 4 → Fin 2304 → Fin 8)
    (hi : ∀ b n, idx (ix2 (flat b n) 0) = BitVec.ofNat 32 (seg b (L b n)).val) (f : Fin 9216 → EReal) (b : Fin 4) (k : Fin 8) :
    (∑ m, if (idx (ix2 m 0)).toInt = (seg b k : ℕ) then f m else 0) = ∑ n, if L b n = k then f (flat b n) else 0 := by
  have e : ∀ b' n, (idx (ix2 (flat b' n) 0)).toInt = ((seg b k : Fin 32) : ℕ) ↔ b' = b ∧ L b' n = k := by
    intro b' n
    rw [hi, toInt_small (lt_trans (seg b' (L b' n)).isLt (by norm_num)), seg_eq_iff]
  rw [sum_flat, Finset.sum_eq_single b]
  · simp only [e, true_and]
  · intro b' _ hb
    exact Finset.sum_eq_zero fun n _ => if_neg fun h => hb ((e b' n).1 h).1
  · intro h; exact absurd (Finset.mem_univ b) h

end Cert.KMeans.Reference

end
-- ==== Proof.RefArgmin.lean ====
/-
  THE REFERENCE'S LABELS: the reduction that keeps the lesser value, and at equal values the lesser number, leaves the first
  place of the least value.
-/
module

public import proofs.«01_k».proof.Proof.Gen.ReferenceIdeal
public import proofs.«01_k».proof.Proof.Spec
public import Idealize.ShloMosaic.Lib.Pointwise
public import Idealize.ShloMosaic.Lib.IdealHost

@[expose] public section

set_option maxRecDepth 16384

noncomputable section

namespace Cert.KMeans.Reference

open Idealize.ShloMosaic Cert.ReferenceIdeal Cert.ReferenceIdeal.Gen

/-- One step of the reduction: the lesser value, and with it, or at an equal value, the lesser number. -/
theorem reducer_eq (p q : Ideal .f32 × BitVec 32) :
    reducer_argmin_f32_i32 (F := Ideal) p q
      = (if p.1 < q.1 then p.1 else q.1, if p.1 < q.1 ∨ (p.1 = q.1 ∧ BitVec.slt p.2 q.2 = true) then p.2 else q.2) := by
  have h1 : FloatOps.cmpf (F := Ideal) .olt p.1 q.1 = BitVec.ofBool (decide (p.1 < q.1)) := rfl
  have h2 : FloatOps.cmpf (F := Ideal) .oeq p.1 q.1 = BitVec.ofBool (decide (p.1 = q.1)) := rfl
  have h3 : FloatOps.cmpf (F := Ideal) .une p.1 p.1 = BitVec.ofBool (decide (p.1 ≠ p.1)) := rfl
  have h4 : IntOp.cmpi .slt p.2 q.2 = BitVec.ofBool (BitVec.slt p.2 q.2) := rfl
  unfold reducer_argmin_f32_i32
  simp only [h1, h2, h3, h4]
  by_cases a : p.1 < q.1 <;> by_cases b : p.1 = q.1 <;> by_cases c : BitVec.slt p.2 q.2 = true <;>
    simp [a, b, c, Scalar.select, IntOp.ori, IntOp.andi]

/-- The pair of a place: its value and its number. -/
def entry (d : Fin 8 → ℝ) (k : Fin 8) : Ideal .f32 × BitVec 32 := ((d k : EReal), BitVec.ofNat 32 k.val)

theorem slt_iff (k j : Fin 8) : BitVec.slt (BitVec.ofNat 32 k.val) (BitVec.ofNat 32 j.val) = true ↔ k < j := by
  revert k j; decide

/-- The step on two places keeps one that is before both. -/
theorem reducer_entry (d : Fin 8 → ℝ) (k j : Fin 8) :
    reducer_argmin_f32_i32 (F := Ideal) (entry d k) (entry d j)
      = if d k < d j ∨ (d k = d j ∧ k < j) then entry d k else entry d j := by
  rw [reducer_eq]
  simp only [entry, EReal.coe_lt_coe_iff, EReal.coe_eq_coe_iff, slt_iff]
  by_cases a : d k < d j
  · simp [a]
  · by_cases b : d k = d j
    · by_cases c : k < j <;> simp [b, c]
    · simp [a, b]

/-- From a place on, the reduction over places keeps a place at or before all of them. -/
theorem foldl_entry (d : Fin 8 → ℝ) (l : List (Fin 8)) : ∀ k0 : Fin 8,
    ∃ k, (l.map (entry d)).foldl (reducer_argmin_f32_i32 (F := Ideal)) (entry d k0) = entry d k
      ∧ ∀ j ∈ k0 :: l, d k < d j ∨ (d k = d j ∧ k ≤ j) := by
  induction l with
  | nil => exact fun k0 => ⟨k0, rfl, fun j hj => by rw [List.mem_singleton] at hj; subst hj; exact .inr ⟨rfl, le_rfl⟩⟩
  | cons i l ih =>
    intro k0
    rw [List.map_cons, List.foldl_cons, reducer_entry]
    by_cases h : d k0 < d i ∨ (d k0 = d i ∧ k0 < i)
    · rw [if_pos h]
      obtain ⟨k, e, hk⟩ := ih k0
      refine ⟨k, e, fun j hj => ?_⟩
      rcases List.mem_cons.1 hj with rfl | hj
      · exact hk _ List.mem_cons_self
      · rcases List.mem_cons.1 hj with rfl | hj
        · rcases hk k0 List.mem_cons_self with a | ⟨a, a'⟩ <;> rcases h with b | ⟨b, b'⟩
          · exact .inl (a.trans b)
          · exact .inl (b ▸ a)
          · exact .inl (a ▸ b)
          · exact .inr ⟨a.trans b, a'.trans b'.le⟩
        · exact hk _ (List.mem_cons_of_mem _ hj)
    · rw [if_neg h]
      obtain ⟨k, e, hk⟩ := ih i
      refine ⟨k, e, fun j hj => ?_⟩
      rcases List.mem_cons.1 hj with rfl | hj
      · have hi : d i < d j ∨ (d i = d j ∧ i ≤ j) := by
          rcases lt_trichotomy (d j) (d i) with a | a | a
          · exact absurd (.inl a) h
          · exact .inr ⟨a.symm, not_lt.1 fun b => h (.inr ⟨a, b⟩)⟩
          · exact .inl a
        rcases hk i List.mem_cons_self with a | ⟨a, a'⟩ <;> rcases hi with b | ⟨b, b'⟩
        · exact .inl (a.trans b)
        · exact .inl (b ▸ a)
        · exact .inl (a ▸ b)
        · exact .inr ⟨a.trans b, a'.trans b'⟩
      · exact hk _ hj

/-- From the greatest value on, over all places in any order, the reduction leaves the first place of the least value. -/
theorem foldl_all (d : Fin 8 → ℝ) (l : List (Fin 8)) (hl : ∀ k, k ∈ l) :
    ((l.map (entry d)).foldl (reducer_argmin_f32_i32 (F := Ideal)) ((⊤ : EReal), 0#32)) = entry d (first d) := by
  cases l with
  | nil => exact absurd (hl 0) List.not_mem_nil
  | cons i l =>
    have h0 : reducer_argmin_f32_i32 (F := Ideal) ((⊤ : EReal), 0#32) (entry d i) = entry d i := by
      rw [reducer_eq]
      simp [entry]
    rw [List.map_cons, List.foldl_cons, h0]
    obtain ⟨k, e, hk⟩ := foldl_entry d l i
    have hf : FirstMin d k := by
      refine ⟨fun j => ?_, fun j hj => ?_⟩
      · rcases hk j (hl j) with a | a
        · exact a.le
        · exact a.1.le
      · rcases hk j (hl j) with a | a
        · exact a
        · exact absurd a.2 (not_le.2 hj)
    rw [e, hf.eq_first]

/-- The labels of every point of every batch, from the distances. -/
def argmins (d : FVec Ideal S4x2304x8 .f32) : IVec S4x2304 32 := fun j =>
  (Host.argReduce reducer_argmin_f32_i32 d (iotaInDim S4x2304x8 32 2) (constant S_ .f32 0x7F800000#32) (constantI S_ 32 0#32)
    Facts₀.reducesTo_S4x2304x8_S4x2304_d2 Facts₀.h_S_ j).2

theorem drop_eq (b : Fin 4) (n : Fin 2304) (k : Fin 8) :
    Shape.ReducesTo.drop Facts₀.reducesTo_S4x2304x8_S4x2304_d2 (ix3 b n k) = ix2 b n := by
  funext a
  fin_cases a <;> rfl

/-- The last coordinate: the centre. -/
def third (y : S4x2304x8.Idx) : Fin 8 := y (2 : Fin 3)

/-- A distance and its number at an entry of point `n` of batch `b`. -/
theorem pair_eq {d : FVec Ideal S4x2304x8 .f32} {D : Fin 4 → Fin 2304 → Fin 8 → ℝ} (hd : ∀ b n k, d (ix3 b n k) = (D b n k : EReal))
    (b : Fin 4) (n : Fin 2304) (y : S4x2304x8.Idx)
    (hy : Shape.ReducesTo.drop Facts₀.reducesTo_S4x2304x8_S4x2304_d2 y = ix2 b n) :
    (d y, iotaInDim S4x2304x8 32 2 y) = entry (D b n) (third y) := by
  obtain ⟨b', n', k', rfl⟩ : ∃ b' n' k', y = ix3 b' n' k' := ⟨_, _, _, eq_ix3 y⟩
  rw [drop_eq, ix2_inj] at hy
  rw [← hy.1, ← hy.2]
  exact Prod.ext (hd _ _ _) rfl

/-- The labels are the first nearest places. -/
theorem argmins_apply {d : FVec Ideal S4x2304x8 .f32} {D : Fin 4 → Fin 2304 → Fin 8 → ℝ} (hd : ∀ b n k, d (ix3 b n k) = (D b n k : EReal))
    (b : Fin 4) (n : Fin 2304) : argmins d (ix2 b n) = BitVec.ofNat 32 (first (D b n)).val := by
  unfold argmins
  rw [Ideal.argReduce_eq_reduce2, Host.reduce2_eq_foldl_fiber]
  have hfib : Host.argReduceFiber d (iotaInDim S4x2304x8 32 2) Facts₀.reducesTo_S4x2304x8_S4x2304_d2 (ix2 b n)
      = ((((List.finRange S4x2304x8.numel).filter fun i => Shape.ReducesTo.drop Facts₀.reducesTo_S4x2304x8_S4x2304_d2 (S4x2304x8.rowMajor.symm i) = ix2 b n).map
          fun i => third (S4x2304x8.rowMajor.symm i)).map (entry (D b n))) := by
    unfold Host.argReduceFiber
    refine Eq.trans ?_ List.map_map.symm
    refine List.map_congr_left fun i hi => ?_
    exact pair_eq hd b n _ (of_decide_eq_true (List.mem_filter.1 hi).2)
  rw [hfib]
  have hinf : (constant (F := Ideal) S_ .f32 0x7F800000#32) (Shape.Idx.first Facts₀.h_S_) = (⊤ : EReal) := by
    show Ideal.ofBits .f32 0x7F800000#32 = _
    simp [Ideal.ofBits, Ideal.ieee]
  rw [hinf]
  refine congrArg Prod.snd (foldl_all (D b n) _ fun k => ?_)
  rw [List.mem_map]
  refine ⟨S4x2304x8.rowMajor (ix3 b n k), ?_, ?_⟩
  · rw [List.mem_filter]
    refine ⟨List.mem_finRange _, decide_eq_true ?_⟩
    rw [Equiv.symm_apply_apply, drop_eq]
  · rw [Equiv.symm_apply_apply]
    rfl

end Cert.KMeans.Reference

end
-- ==== Proof.RefOps.lean ====
/-
  WHAT THE REFERENCE'S OPERATIONS COMPUTE, over the extended reals and on finite data: the squared distances, the segment
  numbers and the segment sums, each as the function of Proof/Spec.lean it is.
-/
module

public import proofs.«01_k».proof.Proof.Gen.ReferenceIdeal
public import proofs.«01_k».proof.Proof.Mean
public import proofs.«01_k».proof.Proof.RefScatter
public import proofs.«01_k».proof.Proof.RefArgmin
public import Idealize.ShloMosaic.Lib.Pointwise
public import Idealize.ShloMosaic.Lib.IdealHost

@[expose] public section

set_option maxRecDepth 16384

noncomputable section

namespace Cert.KMeans.Reference

open Idealize.ShloMosaic Cert.ReferenceIdeal Cert.ReferenceIdeal.Gen

/-- The differences of every point and every centre. -/
def diffs (x : FVec Ideal S4x2304x192 .f32) (c : FVec Ideal S4x8x192 .f32) : FVec Ideal S4x2304x8x192 .f32 :=
  subf
    (broadcastInDim S4x2304x8x192 ![0, 1, 2, 3] Facts₀.bcast_S4x2304x1x192_S4x2304x8x192_0_1_2_3
      (broadcastInDim S4x2304x1x192 ![0, 1, 3] Facts₀.bcast_S4x2304x192_S4x2304x1x192_0_1_3 x))
    (broadcastInDim S4x2304x8x192 ![0, 1, 2, 3] Facts₀.bcast_S4x1x8x192_S4x2304x8x192_0_1_2_3
      (broadcastInDim S4x1x8x192 ![0, 2, 3] Facts₀.bcast_S4x8x192_S4x1x8x192_0_2_3 c))

/-- The squared distances of every point and every centre. -/
def dists (x : FVec Ideal S4x2304x192 .f32) (c : FVec Ideal S4x8x192 .f32) : FVec Ideal S4x2304x8 .f32 :=
  Host.reduceAdd (mulf (diffs x c) (diffs x c)) (constant S_ .f32 0x00000000#32) Facts₀.reducesTo_S4x2304x8x192_S4x2304x8_d3 Facts₀.h_S_

/-- The distances, entry by entry. -/
theorem dists_apply {x : FVec Ideal S4x2304x192 .f32} {c : FVec Ideal S4x8x192 .f32}
    {X : Fin 4 → Fin 2304 → Fin 192 → ℝ} {C : Fin 4 → Fin 8 → Fin 192 → ℝ}
    (hx : ∀ b n j, x (ix3 b n j) = (X b n j : EReal)) (hc : ∀ b k j, c (ix3 b k j) = (C b k j : EReal))
    (b : Fin 4) (n : Fin 2304) (k : Fin 8) : dists x c (ix3 b n k) = (dist (X b) (C b) n k : EReal) := by
  pointwise [dists, diffs, hx, hc]
  simp only [dist, coe_sum, EReal.coe_mul, EReal.coe_sub]

/-- The segment of every point of every batch: eight segments per batch, one per label. -/
def segs (l : IVec S4x2304 32) : IVec S9216x1 32 :=
  broadcastInDim S9216x1 ![0] Facts₀.bcast_S9216_S9216x1_0
    (shapeCast S9216
      (addi
        (broadcastInDim S4x2304 ![0, 1] Facts₀.bcast_S4x1_S4x2304_0_1
          (muli (broadcastInDim S4x1 ![0] Facts₀.bcast_S4_S4x1_0 (iotaInDim S4 32 0))
            (broadcastInDim S4x1 ![] Facts₀.bcast_S_S4x1 (constantI S_ 32 8#32))))
        l)
      Facts₀.shapeCasts_S4x2304_S9216)

/-- The segment of point `n` of batch `b`: that of its label. -/
theorem segs_apply {l : IVec S4x2304 32} {L : Fin 4 → Fin 2304 → Fin 8} (hl : ∀ b n, l (ix2 b n) = BitVec.ofNat 32 (L b n).val)
    (b : Fin 4) (n : Fin 2304) : segs l (ix2 (flat b n) 0) = BitVec.ofNat 32 (seg b (L b n)).val := by
  have e : ∀ (b : Fin 4) (k : Fin 8), IntOp.addi (IntOp.muli (BitVec.ofNat 32 b.val) 8#32) (BitVec.ofNat 32 k.val) = BitVec.ofNat 32 (seg b k).val := by
    decide
  rw [← e]
  unfold flat
  pointwise [segs, hl]

/-- The points of all batches, one under the other. -/
def rows (x : FVec Ideal S4x2304x192 .f32) : FVec Ideal S9216x192 .f32 :=
  shapeCast S9216x192 x Facts₀.shapeCasts_S4x2304x192_S9216x192

theorem rows_apply (x : FVec Ideal S4x2304x192 .f32) (b : Fin 4) (n : Fin 2304) (j : Fin 192) : rows x (ix2 (flat b n) j) = x (ix3 b n j) := by
  unfold flat
  pointwise [rows]

/-- The sums of the points of every label of every batch. -/
def sums (x : FVec Ideal S4x2304x192 .f32) (l : IVec S4x2304 32) : FVec Ideal S4x8x192 .f32 :=
  shapeCast S4x8x192
    (Host.scatterAdd scatter_S32x192_S9216x1_S9216x192_1_0_0_1
      (broadcastInDim S32x192 ![] Facts₀.bcast_S_S32x192 (constant S_ .f32 0x00000000#32)) (segs l) (rows x))
    Facts₀.shapeCasts_S32x192_S4x8x192

/-- The numbers of points of every label of every batch. -/
def counts (l : IVec S4x2304 32) : FVec Ideal S4x8 .f32 :=
  shapeCast S4x8
    (Host.scatterAdd (F := Ideal) scatter_S32_S9216x1_S9216_n_0_0_1
      (broadcastInDim S32 ![] Facts₀.bcast_S_S32 (constant S_ .f32 0x00000000#32)) (segs l)
      (broadcastInDim S9216 ![] Facts₀.bcast_S_S9216 (constant S_ .f32 0x3F800000#32)))
    Facts₀.shapeCasts_S32_S4x8

theorem sums_apply {x : FVec Ideal S4x2304x192 .f32} {X : Fin 4 → Fin 2304 → Fin 192 → ℝ} (hx : ∀ b n j, x (ix3 b n j) = (X b n j : EReal))
    {l : IVec S4x2304 32} {L : Fin 4 → Fin 2304 → Fin 8} (hl : ∀ b n, l (ix2 b n) = BitVec.ofNat 32 (L b n).val)
    (b : Fin 4) (k : Fin 8) (j : Fin 192) : sums x l (ix3 b k j) = (tot (X b) (L b) k j : EReal) := by
  have e : sums x l (ix3 b k j) = Host.scatterAdd scatter_S32x192_S9216x1_S9216x192_1_0_0_1
      (broadcastInDim S32x192 ![] Facts₀.bcast_S_S32x192 (constant S_ .f32 0x00000000#32)) (segs l) (rows x) (ix2 (seg b k) j) := by
    unfold sums seg
    generalize Host.scatterAdd scatter_S32x192_S9216x1_S9216x192_1_0_0_1
      (broadcastInDim S32x192 ![] Facts₀.bcast_S_S32x192 (constant S_ .f32 0x00000000#32)) (segs l) (rows x) = y
    pointwise
  have z : (broadcastInDim S32x192 ![] Facts₀.bcast_S_S32x192 (constant (F := Ideal) S_ .f32 0x00000000#32)) (ix2 (seg b k) j) = (0 : EReal) := by
    pointwise
  rw [e, scatter_rows, z, zero_add, sum_seg (segs l) L (segs_apply hl) (fun m => rows x (ix2 m j)), tot, coe_sum]
  refine Finset.sum_congr rfl fun n _ => ?_
  simp only [rows_apply, hx, coe_ite, EReal.coe_zero]

theorem counts_apply {l : IVec S4x2304 32} {L : Fin 4 → Fin 2304 → Fin 8} (hl : ∀ b n, l (ix2 b n) = BitVec.ofNat 32 (L b n).val)
    (b : Fin 4) (k : Fin 8) : counts l (ix2 b k) = (cnt (L b) k : EReal) := by
  have e : counts l (ix2 b k) = Host.scatterAdd (F := Ideal) scatter_S32_S9216x1_S9216_n_0_0_1
      (broadcastInDim S32 ![] Facts₀.bcast_S_S32 (constant S_ .f32 0x00000000#32)) (segs l)
      (broadcastInDim S9216 ![] Facts₀.bcast_S_S9216 (constant S_ .f32 0x3F800000#32)) (ix1 (seg b k)) := by
    unfold counts seg
    generalize Host.scatterAdd (F := Ideal) scatter_S32_S9216x1_S9216_n_0_0_1
      (broadcastInDim S32 ![] Facts₀.bcast_S_S32 (constant S_ .f32 0x00000000#32)) (segs l)
      (broadcastInDim S9216 ![] Facts₀.bcast_S_S9216 (constant S_ .f32 0x3F800000#32)) = y
    pointwise
  have z : (broadcastInDim S32 ![] Facts₀.bcast_S_S32 (constant (F := Ideal) S_ .f32 0x00000000#32)) (ix1 (seg b k)) = (0 : EReal) := by
    pointwise
  have o : ∀ m, (broadcastInDim S9216 ![] Facts₀.bcast_S_S9216 (constant (F := Ideal) S_ .f32 0x3F800000#32)) (ix1 m) = (1 : EReal) := by
    intro m
    pointwise
  rw [e, scatter_ones, z, zero_add,
    sum_seg (segs l) L (segs_apply hl) (fun m => (broadcastInDim S9216 ![] Facts₀.bcast_S_S9216 (constant (F := Ideal) S_ .f32 0x3F800000#32)) (ix1 m)),
    cnt, coe_sum]
  refine Finset.sum_congr rfl fun n _ => ?_
  simp only [o, coe_ite, EReal.coe_one, EReal.coe_zero]

/-- The means for some sums and numbers of points, and `z` where there is no point. -/
def meansOf (s : FVec Ideal S4x8x192 .f32) (n : FVec Ideal S4x8 .f32) (z : FVec Ideal S4x8x192 .f32) : FVec Ideal S4x8x192 .f32 :=
  select
    (broadcastInDim S4x8x192 ![0, 1, 2] Facts₀.bcast_S4x8x1_S4x8x192_0_1_2
      (cmpf .ogt (broadcastInDim S4x8x1 ![0, 1] Facts₀.bcast_S4x8_S4x8x1_0_1 n)
        (broadcastInDim S4x8x1 ![] Facts₀.bcast_S_S4x8x1 (constant S_ .f32 0x00000000#32))))
    (Host.divf s
      (broadcastInDim S4x8x192 ![0, 1, 2] Facts₀.bcast_S4x8x1_S4x8x192_0_1_2
        (broadcastInDim S4x8x1 ![0, 1] Facts₀.bcast_S4x8_S4x8x1_0_1
          (maximumf n (broadcastInDim S4x8 ![] Facts₀.bcast_S_S4x8 (constant S_ .f32 0x3F800000#32))))))
    z

/-- The means of the points of every label of every batch, and `z` where there is no point. -/
def means (x : FVec Ideal S4x2304x192 .f32) (l : IVec S4x2304 32) (z : FVec Ideal S4x8x192 .f32) : FVec Ideal S4x8x192 .f32 :=
  meansOf (sums x l) (counts l) z

/-- The means, entry by entry. -/
theorem means_apply {x : FVec Ideal S4x2304x192 .f32} {X : Fin 4 → Fin 2304 → Fin 192 → ℝ} (hx : ∀ b n j, x (ix3 b n j) = (X b n j : EReal))
    {l : IVec S4x2304 32} {L : Fin 4 → Fin 2304 → Fin 8} (hl : ∀ b n, l (ix2 b n) = BitVec.ofNat 32 (L b n).val)
    {z : FVec Ideal S4x8x192 .f32} {Z : Fin 4 → Fin 8 → Fin 192 → ℝ} (hz : ∀ b k j, z (ix3 b k j) = (Z b k j : EReal))
    (b : Fin 4) (k : Fin 8) (j : Fin 192) : means x l z (ix3 b k j) = (mean (X b) (L b) (Z b) k j : EReal) := by
  pointwise [means, meansOf, sums_apply hx hl, counts_apply hl, hz]
  exact mean_coe (X b) (L b) (Z b) k j

end Cert.KMeans.Reference

end
-- ==== Proof.RefIter.lean ====
/-
  THE REFERENCE'S ITERATION, over the extended reals and on finite data: its first centres, its centres after any number of
  iterations, its labels and its final means, each as the function of Proof/Spec.lean it is.
-/
module

public import proofs.«01_k».proof.Proof.RefOps

@[expose] public section

set_option maxRecDepth 16384

noncomputable section

namespace Cert.KMeans.Reference

open Idealize.ShloMosaic Cert.ReferenceIdeal Cert.ReferenceIdeal.Gen

/-- The points of every batch, a row each. -/
def points (a : FVec Ideal S4x192x48x48 .f32) : FVec Ideal S4x2304x192 .f32 :=
  transpose S4x2304x192 [0, 2, 1] (shapeCast S4x192x2304 a Facts₀.shapeCasts_S4x192x48x48_S4x192x2304)
    Facts₀.transposes_S4x192x2304_S4x2304x192_0_2_1

/-- The first centres: the first eight points. -/
def starts (x : FVec Ideal S4x2304x192 .f32) : FVec Ideal S4x8x192 .f32 :=
  extractStridedSlice S4x8x192 ![0, 0, 0] x Facts₀.slices_S4x2304x192_S4x8x192_0_0_0

/-- The labels for some centres. -/
def nearest (x : FVec Ideal S4x2304x192 .f32) (c : FVec Ideal S4x8x192 .f32) : IVec S4x2304 32 := argmins (dists x c)

/-- The centres after `t` iterations. -/
def iterate (x : FVec Ideal S4x2304x192 .f32) : ℕ → FVec Ideal S4x8x192 .f32
  | 0 => starts x
  | t + 1 => means x (nearest x (iterate x t)) (iterate x t)

/-- The final means: zero for a centre without points. -/
def finish (x : FVec Ideal S4x2304x192 .f32) : FVec Ideal S4x8x192 .f32 :=
  means x (nearest x (iterate x 10)) (broadcastInDim S4x8x192 ![] Facts₀.bcast_S_S4x8x192 (id (constant S_ .f32 0x00000000#32)))

variable {x : FVec Ideal S4x2304x192 .f32} {X : Fin 4 → Fin 2304 → Fin 192 → ℝ}

theorem starts_apply (hx : ∀ b n j, x (ix3 b n j) = (X b n j : EReal)) (b : Fin 4) (k : Fin 8) (j : Fin 192) :
    starts x (ix3 b k j) = (centresOf (X b) 0 k j : EReal) := by
  show _ = ((X b (Fin.castLE (by omega) k) j : ℝ) : EReal)
  rw [← hx]
  pointwise [starts]
  rfl

theorem nearest_apply (hx : ∀ b n j, x (ix3 b n j) = (X b n j : EReal)) {c : FVec Ideal S4x8x192 .f32} {C : Fin 4 → Fin 8 → Fin 192 → ℝ}
    (hc : ∀ b k j, c (ix3 b k j) = (C b k j : EReal)) (b : Fin 4) (n : Fin 2304) :
    nearest x c (ix2 b n) = BitVec.ofNat 32 (lab (X b) (C b) n).val :=
  argmins_apply (D := fun b n => dist (X b) (C b) n) (dists_apply hx hc) b n

theorem iterate_apply (hx : ∀ b n j, x (ix3 b n j) = (X b n j : EReal)) (t : ℕ) :
    ∀ b k j, iterate x t (ix3 b k j) = (centresOf (X b) t k j : EReal) := by
  induction t with
  | zero => exact starts_apply hx
  | succ t ih => exact means_apply hx (nearest_apply hx ih) ih

/-- THE LABELS of the reference. -/
theorem label_apply (hx : ∀ b n j, x (ix3 b n j) = (X b n j : EReal)) (b : Fin 4) (n : Fin 2304) :
    nearest x (iterate x 10) (ix2 b n) = BitVec.ofNat 32 (labelsOf (X b) n).val :=
  nearest_apply hx (iterate_apply hx 10) b n

/-- THE MEANS of the reference. -/
theorem finish_apply (hx : ∀ b n j, x (ix3 b n j) = (X b n j : EReal)) (b : Fin 4) (k : Fin 8) (j : Fin 192) :
    finish x (ix3 b k j) = (finalOf (X b) k j : EReal) := by
  refine means_apply (Z := fun _ _ _ => 0) hx (label_apply hx) (fun b k j => ?_) b k j
  pointwise
  show Ideal.ofBits .f32 0x00000000#32 = _
  simp [Ideal.ofBits, Ideal.ieee]

end Cert.KMeans.Reference

end
-- ==== Proof.RefRun.lean ====
/-
  WHAT THE REFERENCE'S RUN LEAVES, over the extended reals: the stretches' values, one iteration as one step of
  `Reference.iterate`, ten of them, and the two results.
-/
module

public import proofs.«01_k».proof.Proof.RefLaunch
public import proofs.«01_k».proof.Proof.RefIter
public import Idealize.ShloMosaic.Lib.Quiescent

@[expose] public section

set_option maxRecDepth 16384

noncomputable section

namespace Cert.KMeans.Reference

open Idealize.ShloMosaic Idealize.ShloMosaic.TcCoe Idealize.ShloMosaic.Tactic Idealize.ShloMosaic.StableHlo
open Idealize.SL.Sem
open Cert.ReferenceIdeal Cert.ReferenceIdeal.Gen

variable (V : Valuation τ sig (Elt Ideal))

/-! ## The stretches of an iteration -/

theorem tripDist_value : after tripDist V (Proc.devRef .tc main_while0b_v44) = dists (V (Proc.devRef .tc main_v3_0)) (V (Proc.devRef .tc main_v3_2)) := by
  after_reads_simp
  rfl

theorem tripLabel_value : after tripLabel V (Proc.devRef .tc main_while0b_v45) = argmins (V (Proc.devRef .tc main_while0b_v44)) := by
  after_reads_simp
  rfl

theorem tripTotal_sums : after tripTotal V (Proc.devRef .tc main_while0b_v61) = sums (V (Proc.devRef .tc main_v3_0)) (V (Proc.devRef .tc main_while0b_v45)) := by
  after_reads_simp
  rfl

theorem tripTotal_counts : after tripTotal V (Proc.devRef .tc main_while0b_v62) = counts (V (Proc.devRef .tc main_while0b_v45)) := by
  after_reads_simp
  rfl

theorem tripKeep_value : after tripKeep (after tripMean V) (Proc.devRef .tc main_while0b_v71) =
    meansOf (V (Proc.devRef .tc main_while0b_v61)) (V (Proc.devRef .tc main_while0b_v62)) (V (Proc.devRef .tc main_v3_2)) := by
  after_reads_simp
  rfl

theorem tripNext_centres : after tripNext V (Proc.devRef .tc main_v3_2) = V (Proc.devRef .tc main_while0b_v71) := by
  after_reads_simp
  rfl

/-- AN ITERATION moves the centres to the means. -/
theorem trip_centres : afterL trips V (Proc.devRef .tc main_v3_2) =
    means (V (Proc.devRef .tc main_v3_0)) (nearest (V (Proc.devRef .tc main_v3_0)) (V (Proc.devRef .tc main_v3_2))) (V (Proc.devRef .tc main_v3_2)) := by
  simp only [afterL_cons, afterL_nil]
  rw [tripNext_centres, tripKeep_value, tripTotal_sums, tripTotal_counts, tripTotal_off _ (r := main_v3_2) (by decide), tripLabel_value,
    tripDist_value, tripLabel_off _ (r := main_v3_2) (by decide), tripLabel_off _ (r := main_v3_0) (by decide),
    tripDist_off _ (r := main_v3_2) (by decide), tripDist_off _ (r := main_v3_0) (by decide)]
  rfl

/-- An iteration leaves alone what none of its stretches writes. -/
theorem trip_off {r : Ref sig .tc} (h₁ : r ∉ tripDist_W) (h₂ : r ∉ tripLabel_W) (h₃ : r ∉ tripTotal_W)
    (h₄ : r ∉ tripMean_W) (h₅ : r ∉ tripKeep_W) (h₆ : r ∉ tripNext_W) : afterL trips V (Proc.devRef .tc r) = V (Proc.devRef .tc r) := by
  simp only [afterL_cons, afterL_nil]
  rw [tripNext_off _ h₆, trips_off _ h₁ h₂ h₃ h₄ h₅]

/-! ## The loop -/

/-- The state of the loop after `k` iterations on the points of `a`. -/
structure State (a : FVec Ideal S4x192x48x48 .f32) (k : ℕ) (V : Valuation τ sig (Elt Ideal)) : Prop where
  input : V (Proc.devRef .tc main_arg0) = a
  whole : V (Proc.devRef .tc main_v1) = points a
  carried : V (Proc.devRef .tc main_v3_0) = points a
  centres : V (Proc.devRef .tc main_v3_2) = iterate (points a) k

theorem state_entry : State (V (Proc.devRef .tc main_arg0)) 0 (after onset V) where
  input := onset_off V (by decide)
  whole := by after_reads_simp; rfl
  carried := by after_reads_simp; rfl
  centres := by after_reads_simp; rfl

theorem state_asks {a : FVec Ideal S4x192x48x48 .f32} {k : ℕ} {V : Valuation τ sig (Elt Ideal)} (h : State a k V) : State a k (after asks V) where
  input := (asks_off V (by decide)).trans h.input
  whole := (asks_off V (by decide)).trans h.whole
  carried := (asks_off V (by decide)).trans h.carried
  centres := (asks_off V (by decide)).trans h.centres

theorem state_trip {a : FVec Ideal S4x192x48x48 .f32} {k : ℕ} {V : Valuation τ sig (Elt Ideal)} (h : State a k V) : State a (k + 1) (afterL trips V) where
  input := (trip_off V (by decide) (by decide) (by decide) (by decide) (by decide) (by decide)).trans h.input
  whole := (trip_off V (by decide) (by decide) (by decide) (by decide) (by decide) (by decide)).trans h.whole
  carried := (trip_off V (by decide) (by decide) (by decide) (by decide) (by decide) (by decide)).trans h.carried
  centres := by
    rw [trip_centres, h.carried, h.centres]
    rfl

variable (m : (ℓ : Loc nD τ sig) → Buf (Elt Ideal) ℓ) (ρ : Dev nD → PrngReg)

/-- Before the loop asks for the `k`-th time, `k` iterations are done. -/
theorem state_asked (c : Dev nD) : ∀ k, State (m (c.tc.loc main_arg0)) k (asked m k c)
  | 0 => state_entry (launchContents m c)
  | k + 1 => state_trip (state_asks (state_asked c k))

/-! ## After the loop -/

theorem lastDist_value : after lastDist V (Proc.devRef .tc main_v10) = dists (V (Proc.devRef .tc main_v1)) (V (Proc.devRef .tc main_v3_2)) := by
  after_reads_simp
  rfl

theorem lastLabel_value : after lastLabel V (Proc.devRef .tc main_v11) = argmins (V (Proc.devRef .tc main_v10)) := by
  after_reads_simp
  rfl

theorem lastTotal_sums : after lastTotal V (Proc.devRef .tc main_v27) = sums (V (Proc.devRef .tc main_v1)) (V (Proc.devRef .tc main_v11)) := by
  after_reads_simp
  rfl

theorem lastTotal_counts : after lastTotal V (Proc.devRef .tc main_v28) = counts (V (Proc.devRef .tc main_v11)) := by
  after_reads_simp
  rfl

theorem lastKeep_value : after lastKeep (after lastMean V) (Proc.devRef .tc main_v37) =
    meansOf (V (Proc.devRef .tc main_v27)) (V (Proc.devRef .tc main_v28))
      (broadcastInDim S4x8x192 ![] Facts₀.bcast_S_S4x8x192 (id (constant S_ .f32 0x00000000#32))) := by
  after_reads_simp
  rfl

variable {V} in
/-- The labels after ten iterations. -/
theorem last_labels {a : FVec Ideal S4x192x48x48 .f32} (h : State a 10 V) :
    afterL afters V (Proc.devRef .tc main_v11) = nearest (points a) (iterate (points a) 10) := by
  simp only [afterL_cons, afterL_nil]
  rw [lastKeep_off _ (by decide), lastMean_off _ (by decide), lastTotal_off _ (by decide), lastLabel_value, lastDist_value, h.whole, h.centres]
  rfl

variable {V} in
/-- The means after ten iterations. -/
theorem last_means {a : FVec Ideal S4x192x48x48 .f32} (h : State a 10 V) : afterL afters V (Proc.devRef .tc main_v37) = finish (points a) := by
  simp only [afterL_cons, afterL_nil]
  rw [lastKeep_value, lastTotal_sums, lastTotal_counts, lastLabel_value, lastDist_value, lastLabel_off _ (r := main_v1) (by decide),
    lastDist_off _ (r := main_v1) (by decide), h.whole, h.centres]
  rfl

variable {V} in
/-- The input is never written. -/
theorem last_input {a : FVec Ideal S4x192x48x48 .f32} (h : State a 10 V) : afterL afters V (Proc.devRef .tc main_arg0) = a := by
  simp only [afterL_cons, afterL_nil]
  rw [lastKeep_off _ (by decide), lastMean_off _ (by decide), lastTotal_off _ (by decide), lastLabel_off _ (by decide),
    lastDist_off _ (by decide), h.input]

/-- THE RUN of the reference leaves the means and the labels of ten iterations. -/
theorem run : θ_run (defs (F := Ideal)) (onTc (τ := τ) (main (F := Ideal))) ⟨m, fun _ => 0, ρ⟩
    (fun r => ∀ c : Dev nD, r.2.mem (c.tc.loc main_v37) = finish (points (m (c.tc.loc main_arg0)))
      ∧ r.2.mem (c.tc.loc main_v11) = nearest (points (m (c.tc.loc main_arg0))) (iterate (points (m (c.tc.loc main_arg0))) 10)
      ∧ r.2.mem (c.tc.loc main_arg0) = m (c.tc.loc main_arg0)) := by
  refine (θ_run _ _ _).mono ?_ (run_stretches m ρ)
  intro r h c
  have s := state_asks (state_asked m c 10)
  exact ⟨(h c main_v37 rfl).trans (last_means s), (h c main_v11 rfl).trans (last_labels s), (h c main_arg0 rfl).trans (last_input s)⟩

/-- The run leaves its input and no counter running. -/
theorem frame : θ_run (defs (F := Ideal)) (onTc (τ := τ) (main (F := Ideal))) ⟨m, fun _ => 0, ρ⟩
    (fun r => (∀ c : Dev nD, r.2.mem (c.tc.loc main_arg0) = m (c.tc.loc main_arg0)) ∧ r.2.sem = fun _ => 0) :=
  (θ_run _ _ _).mono (fun r h => ⟨fun c => (h c).2.2, sem_eq_zero_of_no_sems (by decide) r.2⟩) (run m ρ)

end Cert.KMeans.Reference

end
-- ==== Proof.KOps.lean ====
/-
  WHAT ONE BATCH'S OPERATIONS OF THE KERNEL COMPUTE, over the extended reals and on finite data: the stack of split parts,
  the scores of the centres, the labels, the means and the first centres, each as the function of Proof/Spec.lean it is.
-/
module

public import proofs.«01_k».proof.Proof.Gen.KernelIdeal.Skeleton
public import proofs.«01_k».proof.Proof.Mean
public import Idealize.ShloMosaic.Lib.Pointwise
public import Idealize.ShloMosaic.Lib.IdealHost

@[expose] public section

set_option maxRecDepth 16384

noncomputable section

namespace Cert.KMeans

open Idealize.ShloMosaic

/-- A comparison for equality, widened and made a float: one or zero. -/
theorem oneHot (a b : BitVec 32) :
    FloatOps.sitofp (F := Ideal) FTy.f32 (BitVec.setWidth 32 (IntOp.cmpi .eq a b)) = ((if a = b then 1 else 0 : ℝ) : EReal) := by
  show (((BitVec.setWidth 32 (BitVec.ofBool (a == b))).toInt : ℝ) : EReal) = _
  by_cases h : a = b
  · subst h; simp
  · have : (a == b) = false := by simpa using h
    rw [this]; simp [h]

/-- Two small numbers are equal as words exactly if they are equal. -/
theorem ofNat_eq_iff {a b : ℕ} (ha : a < 4096) (hb : b < 4096) : BitVec.ofNat 32 a = BitVec.ofNat 32 b ↔ a = b := by
  constructor
  · intro h
    have := congrArg BitVec.toNat h
    simp only [BitVec.toNat_ofNat] at this
    omega
  · rintro rfl; rfl

theorem ofBits_neg_two : Ideal.ofBits .f32 0xC0000000#32 = ((-2 : ℝ) : EReal) := by
  simp [Ideal.ofBits, Ideal.ieee]
  rw [← EReal.coe_mul]
  norm_num

/-- The least of words, by their signed values, is the one named if none is less. -/
theorem fold_minsi (e : Fin 8 → BitVec 32) (k : Fin 8) (h : ∀ j, (e k).toInt ≤ (e j).toInt) :
    Finset.fold IntOp.minsi (2147483647#32) e Finset.univ = e k := by
  have key : ∀ s : Finset (Fin 8), (∀ x ∈ s, (Finset.fold IntOp.minsi (2147483647#32) e s).toInt ≤ (e x).toInt)
      ∧ (Finset.fold IntOp.minsi (2147483647#32) e s = 2147483647#32 ∨ ∃ x, Finset.fold IntOp.minsi (2147483647#32) e s = e x) := by
    intro s
    induction s using Finset.induction_on with
    | empty => exact ⟨fun x hx => absurd hx (Finset.notMem_empty x), .inl (Finset.fold_empty ..)⟩
    | insert a s ha ih =>
      rw [Finset.fold_insert ha]
      generalize Finset.fold IntOp.minsi (2147483647#32) e s = z at ih
      obtain ⟨ih1, ih2⟩ := ih
      by_cases hl : (e a).toInt < z.toInt
      · have : IntOp.minsi (e a) z = e a := by simp [IntOp.minsi, BitVec.slt, hl]
        rw [this]
        refine ⟨fun x hx => ?_, .inr ⟨a, rfl⟩⟩
        rcases Finset.mem_insert.1 hx with rfl | hx
        · exact le_rfl
        · exact hl.le.trans (ih1 x hx)
      · have : IntOp.minsi (e a) z = z := by
          simp [IntOp.minsi, BitVec.slt, hl]
        rw [this]
        refine ⟨fun x hx => ?_, ih2⟩
        rcases Finset.mem_insert.1 hx with rfl | hx
        · exact not_lt.1 hl
        · exact ih1 x hx
  obtain ⟨h1, h2⟩ := key Finset.univ
  have hle := h1 k (Finset.mem_univ k)
  apply BitVec.eq_of_toInt_eq
  rcases h2 with h2 | ⟨x, h2⟩
  · rw [h2] at hle ⊢
    have := BitVec.toInt_lt (x := e k)
    have e1 : (2147483647#32).toInt = 2147483647 := rfl
    rw [e1] at hle ⊢
    omega
  · rw [h2] at hle ⊢
    exact le_antisymm hle (h x)

theorem ofBits_inf : Ideal.ofBits .f32 0x7F800000#32 = (⊤ : EReal) := by
  simp [Ideal.ofBits, Ideal.ieee]

namespace Kernel

open Cert.KernelIdeal Cert.KernelIdeal.Gen

/-- `v`'s first 192 rows are the points' coordinates, and its next 384 rows are zero. -/
structure IsStack (v : FVec Ideal S1152x2304 .bf16) (X : Fin 2304 → Fin 192 → ℝ) : Prop where
  high (c : Fin 192) (n : Fin 2304) : v (ix2 ⟨c.val, by omega⟩ n) = (X n c : EReal)
  low (c : Fin 192) (n : Fin 2304) : v (ix2 ⟨192 + c.val, by omega⟩ n) = 0
  lower (c : Fin 192) (n : Fin 2304) : v (ix2 ⟨384 + c.val, by omega⟩ n) = 0

/-- The kernel's stack of a block of finite data is one. -/
theorem isStack (x : Vec Ideal S1x192x2304 .f32) (X : Fin 2304 → Fin 192 → ℝ)
    (hx : ∀ c n, x (ix3 0 c n) = (X n c : EReal)) : IsStack (k0_pay3 x) X := by
  have hz : ∀ a : ℝ, (a : EReal) - (a : EReal) = 0 := fun a => by rw [← EReal.coe_sub, sub_self]; rfl
  refine ⟨fun c n => ?_, fun c n => ?_, fun c n => ?_⟩
  · pointwise [k0_pay3]
    simp only [Fin.is_lt, ↓reduceDIte, Fin.eta, hx]
  · pointwise [k0_pay3]
    have h1 : ¬ (192 + c.val < 192) := by omega
    have h2 : 192 + c.val - 192 < 192 := by omega
    simp only [h1, h2, ↓reduceDIte, hx, hz]
  · pointwise [k0_pay3]
    have h1 : ¬ (384 + c.val < 192) := by omega
    have h2 : ¬ (384 + c.val - 192 < 192) := by omega
    have h3 : 384 + c.val - 192 - 192 < 192 := by omega
    simp only [h1, h2, h3, ↓reduceDIte, hx, hz, sub_zero]

/-- The product with the stack: the cross term of the scores. -/
theorem cross_apply {v : FVec Ideal S1152x2304 .bf16} {X : Fin 2304 → Fin 192 → ℝ} (hv : IsStack v X)
    {c : FVec Ideal S8x192 .f32} {C : Fin 8 → Fin 192 → ℝ} (hc : ∀ k j, c (ix2 k j) = (C k j : EReal)) (k : Fin 8) (n : Fin 2304) :
    k0_pay15 v c (ix2 k n) = ((∑ j, (-2 * C k j) * X n j : ℝ) : EReal) := by
  have hz : ∀ a : ℝ, (a : EReal) - (a : EReal) = 0 := fun a => by rw [← EReal.coe_sub, sub_self]; rfl
  pointwise [k0_pay15]
  simp only [hc, ofBits_neg_two, ← EReal.coe_mul, hz, sub_zero]
  rw [coe_sum]
  rw [show (∑ j : Fin 192, ((-2 * C k j * X n j : ℝ) : EReal))
      = ∑ x : Fin (192 + 960), if h : x.val < 192 then ((-2 * C k ⟨x.val, h⟩ * X n ⟨x.val, h⟩ : ℝ) : EReal) else 0 from ?_]
  · refine Finset.sum_congr rfl fun x _ => ?_
    by_cases h : x.val < 192
    · simp only [h, ↓reduceDIte, EReal.coe_mul]
      rw [← hv.high ⟨x.val, h⟩ n]
    · by_cases h1 : x.val - 192 < 192
      · simp only [h, h1, ↓reduceDIte]
        have := hv.low ⟨x.val - 192, h1⟩ n
        simp only [show 192 + (x.val - 192) = x.val by omega] at this
        rw [this, mul_zero]
      · by_cases h2 : x.val - 192 - 192 < 192
        · simp only [h, h1, h2, ↓reduceDIte]
          have := hv.lower ⟨x.val - 192 - 192, h2⟩ n
          simp only [show 384 + (x.val - 192 - 192) = x.val by omega] at this
          rw [this, mul_zero]
        · simp only [h, h1, h2, ↓reduceDIte]
          split_ifs <;> exact zero_mul _
  · rw [Fin.sum_univ_add]
    simp

/-- The kernel's scores. -/
def scores (v : FVec Ideal S1152x2304 .bf16) (c : FVec Ideal S8x192 .f32) : FVec Ideal S8x2304 .f32 :=
  addf (broadcastTo S8x2304 (shapeCast S8x1 (multiReduction .add [1] S8 (k0_pay16 c) 0x00000000#32 Facts₀.reduces_S8x192_S8 (.inl rfl) rfl)
    Facts₀.shapeCasts_S8_S8x1) Facts₀.broadcasts_S8x1_S8x2304) (k0_pay15 v c)

theorem scores_apply {v : FVec Ideal S1152x2304 .bf16} {X : Fin 2304 → Fin 192 → ℝ} (hv : IsStack v X)
    {c : FVec Ideal S8x192 .f32} {C : Fin 8 → Fin 192 → ℝ} (hc : ∀ k j, c (ix2 k j) = (C k j : EReal)) (k : Fin 8) (n : Fin 2304) :
    scores v c (ix2 k n) = (score X C n k : EReal) := by
  have e := cross_apply hv hc k n
  pointwise [scores, k0_pay16]
  rw [e]
  simp only [hc, ← EReal.coe_mul, ← coe_sum]
  rw [← EReal.coe_add]
  rfl

/-- The kernel's labels of scores: the first least one of each column. -/
theorem labels_apply {d : FVec Ideal S8x2304 .f32} {D : Fin 2304 → Fin 8 → ℝ} (hd : ∀ k n, d (ix2 k n) = (D n k : EReal))
    (n : Fin 2304) : k0_pay13 d (ix2 0 n) = BitVec.ofNat 32 (first (D n)).val := by
  obtain ⟨h1, h2⟩ := first_spec (D n)
  have hm : Finset.fold min (⊤ : EReal) (fun x => (D n x : EReal)) Finset.univ = (D n (first (D n)) : EReal) := by
    apply le_antisymm
    · exact (Finset.fold_min_le _).2 (.inr ⟨first (D n), Finset.mem_univ _, le_rfl⟩)
    · exact (Finset.le_fold_min _).2 ⟨le_top, fun x _ => EReal.coe_le_coe_iff.2 (h1 x)⟩
  have ht : ∀ a : ℕ, a < 9 → (BitVec.ofNat 32 a).toInt = a := by decide
  pointwise [k0_pay13]
  simp only [hd, ofBits_inf, hm, EReal.coe_eq_coe_iff]
  rw [fold_minsi _ (first (D n)) fun j => ?_]
  · simp
  · simp only [↓reduceIte]
    rw [ht _ (by omega)]
    split
    · next hj =>
      rw [ht _ (by omega)]
      have : ¬ j < first (D n) := fun hlt => absurd hj (h2 j hlt).ne'
      exact_mod_cast not_lt.1 this
    · rw [show (8#32).toInt = 8 from rfl]
      omega

/-- The sums over the labels, three parts each. -/
theorem sums_apply {v : FVec Ideal S1152x2304 .bf16} {X : Fin 2304 → Fin 192 → ℝ} (hv : IsStack v X)
    {l : IVec S1x2304 32} {L : Fin 2304 → Fin 8} (hl : ∀ n, l (ix2 0 n) = BitVec.ofNat 32 (L n).val) (k : Fin 8) (c : Fin 192) :
    k0_pay20 v l (ix2 k ⟨c.val, by omega⟩) = (tot X L k c : EReal)
      ∧ k0_pay20 v l (ix2 k ⟨192 + c.val, by omega⟩) = 0
      ∧ k0_pay20 v l (ix2 k ⟨384 + c.val, by omega⟩) = 0 := by
  have hk : ∀ n, (BitVec.ofNat 32 (L n).val = BitVec.ofNat 32 k.val) ↔ L n = k := fun n => by
    rw [ofNat_eq_iff (by omega) (by omega), Fin.ext_iff]
  refine ⟨?_, ?_, ?_⟩
  · pointwise [k0_pay20, k0_pay19]
    simp only [oneHot, hl, hk, hv.high, ← EReal.coe_mul, ← coe_sum]
    unfold tot
    simp
  · pointwise [k0_pay20, k0_pay19]
    simp only [hv.low, mul_zero, Finset.sum_const_zero]
  · pointwise [k0_pay20, k0_pay19]
    simp only [hv.lower, mul_zero, Finset.sum_const_zero]

/-- The counts of the labels. -/
theorem counts_eq {l : IVec S1x2304 32} {L : Fin 2304 → Fin 8} (hl : ∀ n, l (ix2 0 n) = BitVec.ofNat 32 (L n).val) (k : Fin 8) :
    (∑ n : Fin 2304, FloatOps.sitofp (F := Ideal) FTy.f32 (BitVec.setWidth 32 (k0_pay19 l (ix2 k n)))) = (cnt L k : EReal) := by
  have hk : ∀ n, (BitVec.ofNat 32 (L n).val = BitVec.ofNat 32 k.val) ↔ L n = k := fun n => by
    rw [ofNat_eq_iff (by omega) (by omega), Fin.ext_iff]
  pointwise [k0_pay19]
  simp only [oneHot, hl, hk, ← coe_sum]
  rfl

/-- One iteration's means of one batch. -/
theorem means_apply {v : FVec Ideal S1152x2304 .bf16} {X : Fin 2304 → Fin 192 → ℝ} (hv : IsStack v X)
    {l : IVec S1x2304 32} {L : Fin 2304 → Fin 8} (hl : ∀ n, l (ix2 0 n) = BitVec.ofNat 32 (L n).val)
    {z : FVec Ideal S8x192 .f32} {Z : Fin 8 → Fin 192 → ℝ} (hz : ∀ k j, z (ix2 k j) = (Z k j : EReal)) (k : Fin 8) (c : Fin 192) :
    k0_pay23 v z l (ix2 k c) = (mean X L Z k c : EReal) := by
  show k0_pay22 z (k0_pay19 l) (k0_pay20 v l) (k0_pay21 v l) (ix2 k c) = _
  have e1 := sums_apply hv hl k c
  have e2 := counts_eq hl k
  generalize k0_pay19 l = m at e2
  pointwise [k0_pay22, k0_pay21]
  rw [e1.1, e1.2.1, e1.2.2, e2, hz, add_zero, add_zero, mean_coe]

/-- The first centres: the first eight points. -/
theorem init_apply {v : FVec Ideal S1152x2304 .bf16} {X : Fin 2304 → Fin 192 → ℝ} (hv : IsStack v X) (k : Fin 8) (c : Fin 192) :
    k0_pay8 v (ix2 k c) = (X (Fin.castLE (by omega) k) c : EReal) := by
  have hk : ∀ n : Fin 2304, (BitVec.ofNat 32 k.val = BitVec.ofNat 32 n.val) ↔ n = Fin.castLE (by omega) k := fun n => by
    rw [ofNat_eq_iff (by omega) (by omega), Fin.ext_iff]
    exact eq_comm
  pointwise [k0_pay8, k0_pay7]
  simp only [oneHot, hk, hv.high, hv.low, hv.lower, mul_zero, Finset.sum_const_zero, add_zero, ← EReal.coe_mul, ← coe_sum]
  simp

/-- The means at the end, with zero for a centre without points. -/
theorem final_apply {v : FVec Ideal S1152x2304 .bf16} {X : Fin 2304 → Fin 192 → ℝ} (hv : IsStack v X)
    {l : IVec S1x2304 32} {L : Fin 2304 → Fin 8} (hl : ∀ n, l (ix2 0 n) = BitVec.ofNat 32 (L n).val) (k : Fin 8) (c : Fin 192) :
    k0_pay1 v (k0_pay19 l) (extui 32 (k0_pay19 l) Facts₀.natLt_1_32) (ix3 0 k c) = (mean X L (fun _ _ => 0) k c : EReal) := by
  have e1 := means_apply hv hl (z := fun _ => 0) (Z := fun _ _ => 0) (fun _ _ => rfl) k c
  rw [← e1]
  pointwise [k0_pay1, k0_pay23, k0_pay19]

end Kernel

end Cert.KMeans

end
-- ==== Proof.KChain.lean ====
/-
  THE KERNEL'S WHOLE BODY, batch by batch: its named values are ten iterations of one step from the first centres, and each
  output block is four pieces, one for every batch.
-/
module

public import proofs.«01_k».proof.Proof.Gen.KernelIdeal.Frame
public import Idealize.ShloMosaic.Lib.Pipeline.FrameBody

@[expose] public section

set_option maxRecDepth 16384

noncomputable section

namespace Cert.KMeans.Kernel

open Idealize.ShloMosaic Cert.KernelIdeal Cert.KernelIdeal.Gen

variable {F : FTy → Type} [FloatOps F]

/-- One batch's centres after `t` iterations, from its stack. -/
def centres (v : FVec F S1152x2304 .bf16) : ℕ → FVec F S8x192 .f32
  | 0 => k0_pay8 v
  | t + 1 => k0_pay23 v (centres v t) (k0_pay14 v (centres v t))

/-- One batch's labels. -/
def labels (v : FVec F S1152x2304 .bf16) : IVec S1x2304 32 := k0_pay14 v (centres v 10)

/-- One batch's means for its labels. -/
def final (v : FVec F S1152x2304 .bf16) : FVec F S1x8x192 .f32 :=
  k0_pay1 v (k0_pay19 (labels v)) (extui 32 (k0_pay19 (labels v)) Facts₀.natLt_1_32)

variable (x0 : Vec F S4x192x2304 .f32)

/-- The label block in four pieces, the last batch's first. -/
theorem out0_1_eq : out0_1 x0 = View.canon [⟨r0_11, k0_pay2 (labels (k0_pay3 (View.ld x0 r0_3)))⟩,
    ⟨r0_9, k0_pay2 (labels (k0_pay3 (View.ld x0 r0_2)))⟩, ⟨r0_7, k0_pay2 (labels (k0_pay3 (View.ld x0 r0_1)))⟩,
    ⟨r0_5, k0_pay2 (labels (k0_pay3 (View.ld x0 r0_0)))⟩] := rfl

/-- The block of means in four pieces, the last batch's first. -/
theorem out0_2_eq : out0_2 x0 = View.canon [⟨r0_10, final (k0_pay3 (View.ld x0 r0_3))⟩,
    ⟨r0_8, final (k0_pay3 (View.ld x0 r0_2))⟩, ⟨r0_6, final (k0_pay3 (View.ld x0 r0_1))⟩,
    ⟨r0_4, final (k0_pay3 (View.ld x0 r0_0))⟩] := rfl

end Cert.KMeans.Kernel

end
-- ==== Proof.KOut.lean ====
/-
  WHAT THE KERNEL LEAVES, on finite data: the two output blocks at an index, as the functions of Proof/Spec.lean they are.
-/
module

public import proofs.«01_k».proof.Proof.KOps
public import proofs.«01_k».proof.Proof.KChain

@[expose] public section

set_option maxRecDepth 16384

noncomputable section

namespace Cert.KMeans

namespace Kernel

open Idealize.ShloMosaic Cert.KernelIdeal Cert.KernelIdeal.Gen

/-- The labels for some centres. -/
theorem label_apply {v : FVec Ideal S1152x2304 .bf16} {X : Fin 2304 → Fin 192 → ℝ} (hv : IsStack v X)
    {c : FVec Ideal S8x192 .f32} {C : Fin 8 → Fin 192 → ℝ} (hc : ∀ k j, c (ix2 k j) = (C k j : EReal)) (n : Fin 2304) :
    k0_pay14 v c (ix2 0 n) = BitVec.ofNat 32 (lab X C n).val := by
  show k0_pay13 (scores v c) (ix2 0 n) = _
  rw [labels_apply (D := score X C) (scores_apply hv hc) n, first_score]

/-- The centres after `t` iterations. -/
theorem centres_apply {v : FVec Ideal S1152x2304 .bf16} {X : Fin 2304 → Fin 192 → ℝ} (hv : IsStack v X) (t : ℕ) :
    ∀ k c, centres v t (ix2 k c) = (centresOf X t k c : EReal) := by
  induction t with
  | zero => exact init_apply hv
  | succ t ih => exact means_apply hv (label_apply hv ih) ih

/-- One batch's labels. -/
theorem labels_at {v : FVec Ideal S1152x2304 .bf16} {X : Fin 2304 → Fin 192 → ℝ} (hv : IsStack v X) (n : Fin 2304) :
    labels v (ix2 0 n) = BitVec.ofNat 32 (labelsOf X n).val :=
  label_apply hv (centres_apply hv 10) n

/-- One batch's means. -/
theorem final_at {v : FVec Ideal S1152x2304 .bf16} {X : Fin 2304 → Fin 192 → ℝ} (hv : IsStack v X) (k : Fin 8) (c : Fin 192) :
    final v (ix3 0 k c) = (finalOf X k c : EReal) :=
  final_apply hv (labels_at hv) k c

/-- Four pieces, one for every place of the leading axis, read at a place: the piece of that place. -/
theorem canon_four {s : Shape} {e : EltTy} {S : Fin 4 → View.Piece (Elt Ideal) s e} (b : Fin 4) (y : s.Idx) (x : (S b).1.shape.Idx)
    (hx : (S b).1.emb x = y) (hn : ∀ i, b < i → y ∉ (S i).1.set) :
    View.canon [S 3, S 2, S 1, S 0] y = (S b).2 x := by
  subst hx
  have hm : ∀ i L, b < i → View.canon (S i :: L) ((S b).1.emb x) = View.canon L ((S b).1.emb x) :=
    fun i L h => View.canon_cons_of_not_mem _ _ (hn i h)
  have he : ∀ L, View.canon (S b :: L) ((S b).1.emb x) = (S b).2 x := fun L => View.canon_cons_emb (S b).1 (S b).2 L x
  fin_cases b
  · rw [hm 3 _ (by decide), hm 2 _ (by decide), hm 1 _ (by decide)]; exact he _
  · rw [hm 3 _ (by decide), hm 2 _ (by decide)]; exact he _
  · rw [hm 3 _ (by decide)]; exact he _
  · exact he _

/-- Batch `b` lies within the input block. -/
theorem inbX (b : Fin 4) : ∀ a, (![b, 0, 0] : Fin 3 → ℕ) a + S1x192x2304.size a ≤ S4x192x2304.size a := by
  intro a; fin_cases a <;> fin_cases b <;> decide

/-- Batch `b` lies within the block of labels. -/
theorem inbL (b : Fin 4) : ∀ a, (![b, 0, 0] : Fin 3 → ℕ) a + S1x1x2304.size a ≤ S4x1x2304.size a := by
  intro a; fin_cases a <;> fin_cases b <;> decide

/-- Batch `b` lies within the block of means. -/
theorem inbM (b : Fin 4) : ∀ a, (![b, 0, 0] : Fin 3 → ℕ) a + S1x8x192.size a ≤ S4x8x192.size a := by
  intro a; fin_cases a <;> fin_cases b <;> decide

/-- Batch `b` of the input block. -/
def rectX (b : Fin 4) : Rect S4x192x2304 :=
  Rect.unit (s := S4x192x2304) ![b, 0, 0] S1x192x2304.size (inbX b)

/-- Batch `b` of the block of labels. -/
def rectL (b : Fin 4) : Rect S4x1x2304 :=
  Rect.unit (s := S4x1x2304) ![b, 0, 0] S1x1x2304.size (inbL b)

/-- Batch `b` of the block of means. -/
def rectM (b : Fin 4) : Rect S4x8x192 :=
  Rect.unit (s := S4x8x192) ![b, 0, 0] S1x8x192.size (inbM b)

/-- The stack of batch `b` of a block. -/
def stackOf (x0 : Vec Ideal S4x192x2304 .f32) (b : Fin 4) : FVec Ideal S1152x2304 .bf16 := k0_pay3 (View.ld x0 (rectX b))

theorem stackOf_isStack {x0 : Vec Ideal S4x192x2304 .f32} {X : Fin 4 → Fin 2304 → Fin 192 → ℝ}
    (hx : ∀ b c n, x0 (ix3 b c n) = (X b n c : EReal)) (b : Fin 4) : IsStack (stackOf x0 b) (X b) := by
  refine isStack _ _ fun c n => ?_
  rw [← hx]
  refine congrArg x0 (funext fun a => Fin.ext ?_)
  fin_cases a
  · show (b : ℕ) + 1 * 0 = b; omega
  · show 0 + 1 * (c : ℕ) = c; omega
  · show 0 + 1 * (n : ℕ) = n; omega

/-- The label block, piece by piece. -/
def labelPieces (x0 : Vec Ideal S4x192x2304 .f32) (b : Fin 4) : View.Piece (Elt Ideal) S4x1x2304 .i32 :=
  ⟨rectL b, k0_pay2 (labels (stackOf x0 b))⟩

/-- The block of means, piece by piece. -/
def finalPieces (x0 : Vec Ideal S4x192x2304 .f32) (b : Fin 4) : View.Piece (Elt Ideal) S4x8x192 .f32 :=
  ⟨rectM b, final (stackOf x0 b)⟩

/-- A place before the piece's first is outside the piece. -/
theorem not_mem_later {s : Shape} {off : Fin s.rank → ℕ} {size : Fin s.rank → ℕ} {inb : ∀ a, off a + size a ≤ s.size a}
    {y : s.Idx} (a : Fin s.rank) (h : (y a : ℕ) < off a) : y ∉ (Rect.unit off size inb).set :=
  fun hm => absurd (Rect.mem_set_unit.1 hm a).1 (not_le.2 h)

theorem labels_block_eq (x0 : Vec Ideal S4x192x2304 .f32) :
    out0_1 x0 = View.canon [labelPieces x0 3, labelPieces x0 2, labelPieces x0 1, labelPieces x0 0] := out0_1_eq x0

theorem means_block_eq (x0 : Vec Ideal S4x192x2304 .f32) :
    out0_2 x0 = View.canon [finalPieces x0 3, finalPieces x0 2, finalPieces x0 1, finalPieces x0 0] := out0_2_eq x0

/-- The label row with a leading axis of one more. -/
theorem lift_apply (l : IVec S1x2304 32) (n : Fin 2304) : k0_pay2 l (ix3 0 0 n) = l (ix2 0 n) := by
  pointwise [k0_pay2]

/-- THE LABELS the kernel leaves. -/
theorem out0_1_apply {x0 : Vec Ideal S4x192x2304 .f32} {X : Fin 4 → Fin 2304 → Fin 192 → ℝ}
    (hx : ∀ b c n, x0 (ix3 b c n) = (X b n c : EReal)) (b : Fin 4) (n : Fin 2304) :
    out0_1 x0 (ix3 b 0 n) = BitVec.ofNat 32 (labelsOf (X b) n).val := by
  rw [← labels_at (stackOf_isStack hx b) n, labels_block_eq]
  have e : (labelPieces x0 b).2 (ix3 0 0 n : S1x1x2304.Idx) = labels (stackOf x0 b) (ix2 0 n) := by
    have e0 : ∀ y : S1x1x2304.Idx, (labelPieces x0 b).2 y = k0_pay2 (labels (stackOf x0 b)) y := by
      intro y
      delta labelPieces
      with_reducible rfl
    rw [e0]
    exact lift_apply (labels (stackOf x0 b)) n
  refine (canon_four (S := labelPieces x0) b (ix3 b 0 n) (ix3 0 0 n : S1x1x2304.Idx) (funext fun a => Fin.ext ?_)
    fun i hi => not_mem_later (inb := inbL i) 0 hi).trans e
  fin_cases a
  · show (b : ℕ) + 1 * 0 = b; omega
  · rfl
  · show 0 + 1 * (n : ℕ) = n; omega

/-- THE MEANS the kernel leaves. -/
theorem out0_2_apply {x0 : Vec Ideal S4x192x2304 .f32} {X : Fin 4 → Fin 2304 → Fin 192 → ℝ}
    (hx : ∀ b c n, x0 (ix3 b c n) = (X b n c : EReal)) (b : Fin 4) (k : Fin 8) (c : Fin 192) :
    out0_2 x0 (ix3 b k c) = (finalOf (X b) k c : EReal) := by
  rw [← final_at (stackOf_isStack hx b) k c, means_block_eq]
  refine (canon_four (S := finalPieces x0) b (ix3 b k c) (ix3 0 k c) (funext fun a => Fin.ext ?_)
    fun i hi => not_mem_later (inb := inbM i) 0 hi).trans rfl
  fin_cases a
  · show (b : ℕ) + 1 * 0 = b; omega
  · show 0 + 1 * (k : ℕ) = k; omega
  · show 0 + 1 * (c : ℕ) = c; omega

end Kernel

end Cert.KMeans

end
-- ==== Proof.Finite.lean ====
/-
  FINITE INPUTS: the precondition says that every element is a real number; the points as real numbers, and the operands of
  the two programs as them.
-/
module

public import proofs.«01_k».proof.Proof.KValue
public import proofs.«01_k».proof.Proof.RefIter
public import proofs.«01_k».proof.Proof.Gen.Pre_finite
public import Idealize.ShloMosaic.Lib.ReduceAll

@[expose] public section

set_option maxRecDepth 16384

noncomputable section

namespace Cert.KMeans

open Idealize.ShloMosaic Cert.KernelIdeal

/-- The greatest finite number of the format is no infinity. -/
theorem max_lt_top : Ideal.ofBits .f32 0x7F7FFFFF#32 < (⊤ : EReal) := by
  simp [Ideal.ofBits, Ideal.ieee]
  rw [← EReal.coe_pow, ← EReal.coe_mul]
  exact EReal.coe_lt_top _

/-- An extended real whose absolute value is below infinity is a real number. -/
theorem coe_toReal_of_abs {z : EReal} (h : max z (-z) < ⊤) : ((z.toReal : ℝ) : EReal) = z := by
  obtain ⟨h1, h2⟩ := max_lt_iff.1 h
  refine EReal.coe_toReal h1.ne ?_
  rintro rfl
  simp at h2

/-- The precondition, element by element. -/
theorem real_of_finite [Cert.Pre_finite.Facts] {a : FVec Ideal S4x192x48x48 .f32} (h : Cert.Pre_finite.fn a = fun _ => 1#1)
    (i : S4x192x48x48.Idx) : (((a i : EReal).toReal : ℝ) : EReal) = a i := by
  have : Subsingleton Cert.Pre_finite.S_.Idx := ⟨fun x y => funext fun a => a.elim0⟩
  have e := Host.reduce_andi_all _ _ _ _ (fun a => a.elim0) (congrFun h fun a => a.elim0) i
  have e : BitVec.ofBool (decide (max (a i : EReal) (-(a i)) ≤ Ideal.ofBits .f32 0x7F7FFFFF#32)) = 1#1 := e
  refine coe_toReal_of_abs (lt_of_le_of_lt ?_ max_lt_top)
  by_contra hn
  rw [decide_eq_false hn] at e
  exact absurd e (by decide)

/-- The coordinate `c` of the point `n` of the batch `b`. -/
def pointOf (a : FVec Ideal S4x192x48x48 .f32) (b : Fin 4) (n : Fin 2304) (c : Fin 192) : ℝ :=
  (Kernel.operand a (ix3 b c n) : EReal).toReal

theorem operand_apply [Cert.Pre_finite.Facts] {a : FVec Ideal S4x192x48x48 .f32} (h : Cert.Pre_finite.fn a = fun _ => 1#1)
    (b : Fin 4) (c : Fin 192) (n : Fin 2304) : Kernel.operand a (ix3 b c n) = (pointOf a b n c : EReal) :=
  (real_of_finite h _).symm

theorem points_apply [Cert.Pre_finite.Facts] {a : FVec Ideal S4x192x48x48 .f32} (h : Cert.Pre_finite.fn a = fun _ => 1#1)
    (b : Fin 4) (n : Fin 2304) (c : Fin 192) : Reference.points a (ix3 b n c) = (pointOf a b n c : EReal) := by
  rw [← operand_apply h]
  show _ = shapeCast _ a _ _
  unfold Reference.points
  generalize hv : shapeCast Cert.ReferenceIdeal.S4x192x2304 a Cert.ReferenceIdeal.Facts₀.shapeCasts_S4x192x48x48_S4x192x2304 = v
  have e : transpose Cert.ReferenceIdeal.S4x2304x192 [0, 2, 1] v Cert.ReferenceIdeal.Facts₀.transposes_S4x192x2304_S4x2304x192_0_2_1
      (ix3 b n c) = v (ix3 b c n) := by
    pointwise
  rw [e, ← hv]

end Cert.KMeans

end
-- ==== Proof.Value.lean ====
/-
  THE EQUATION: on a finite feature map the two results of the kernel are the two results of the reference.
-/
module

public import proofs.«01_k».proof.Proof.KOut
public import proofs.«01_k».proof.Proof.Finite

@[expose] public section

set_option maxRecDepth 16384

noncomputable section

namespace Cert.KMeans

open Idealize.ShloMosaic Cert.KernelIdeal Cert.KernelIdeal.Gen

variable [Cert.Pre_finite.Facts] {a : FVec Ideal S4x192x48x48 .f32}

/-- The means agree. -/
theorem means_eq (h : Cert.Pre_finite.fn a = fun _ => 1#1) :
    Reference.finish (Reference.points a) = out0_2 (Kernel.operand a) := by
  have e : ∀ b k c, Reference.finish (Reference.points a) (ix3 b k c) = out0_2 (Kernel.operand a) (ix3 b k c) := fun b k c =>
    (Reference.finish_apply (points_apply h) b k c).trans (Kernel.out0_2_apply (operand_apply h) b k c).symm
  funext y
  rw [← ix3_eta y]
  exact e _ _ _

/-- The labels agree. -/
theorem labels_eq (h : Cert.Pre_finite.fn a = fun _ => 1#1) :
    Reference.nearest (Reference.points a) (Reference.iterate (Reference.points a) 10) = Kernel.labelResult a := by
  have e : ∀ b n, Reference.nearest (Reference.points a) (Reference.iterate (Reference.points a) 10) (ix2 b n)
      = Kernel.labelResult a (ix2 b n) := fun b n => by
    refine (Reference.label_apply (points_apply h) b n).trans ((Kernel.out0_1_apply (operand_apply h) b n).symm.trans ?_)
    unfold Kernel.labelResult
    generalize out0_1 (Kernel.operand a) = v
    pointwise
  funext y
  rw [← ix2_eta y]
  exact e _ _

end Cert.KMeans

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.KValue
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem Cert.Kernel

open Cert.KMeans in
/-- THE CLAIM. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Reference.frame m ρ,
  fun m ρ _ => Reference.frame m ρ,
  trivial,
  fun m ρ m' ρ' finite agree =>
    ⟨fun c => Cert.KernelIdeal.Gen.out0_2 (Kernel.operand (m (c.tc.loc Cert.KernelIdeal.main_arg0))),
      fun c => Kernel.labelResult (m (c.tc.loc Cert.KernelIdeal.main_arg0)),
      Kernel.run m ρ,
      (θ_run _ _ _).mono (fun r h c => by
        obtain ⟨h₁, h₂, h₃⟩ := h c
        rw [agree c, means_eq (finite c)] at h₁
        rw [agree c, labels_eq (finite c)] at h₂
        exact ⟨h₁, h₂, h₃⟩) (Reference.run m' ρ')⟩⟩

end Cert.Proof

end
